-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_v174) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1280x7168 : Shape := ⟨2, ![1280, 7168]⟩
abbrev S80x7168 : Shape := ⟨2, ![80, 7168]⟩
abbrev S768x7168 : Shape := ⟨2, ![768, 7168]⟩
abbrev S48x7168 : Shape := ⟨2, ![48, 7168]⟩
abbrev S1536x2560 : Shape := ⟨2, ![1536, 2560]⟩
abbrev S2560x1536 : Shape := ⟨2, ![2560, 1536]⟩
abbrev S1536x7168 : Shape := ⟨2, ![1536, 7168]⟩
abbrev S2560x7168 : Shape := ⟨2, ![2560, 7168]⟩
abbrev S1280x512 : Shape := ⟨2, ![1280, 512]⟩
abbrev S80x512 : Shape := ⟨2, ![80, 512]⟩
abbrev S768x512 : Shape := ⟨2, ![768, 512]⟩
abbrev S48x512 : Shape := ⟨2, ![48, 512]⟩
abbrev S1536x512 : Shape := ⟨2, ![1536, 512]⟩
abbrev S2560x512 : Shape := ⟨2, ![2560, 512]⟩
abbrev S1x128 : Shape := ⟨2, ![1, 128]⟩
abbrev S32x128 : Shape := ⟨2, ![32, 128]⟩
abbrev S8x128 : Shape := ⟨2, ![8, 128]⟩
abbrev S16x128 : Shape := ⟨2, ![16, 128]⟩
abbrev S256x128 : Shape := ⟨2, ![256, 128]⟩
abbrev S256x2560 : Shape := ⟨2, ![256, 2560]⟩
abbrev S256x512 : Shape := ⟨2, ![256, 512]⟩
abbrev S256x1536 : Shape := ⟨2, ![256, 1536]⟩

abbrev nBuf : Space → Nat
  | .hbm => 8
  | .vmem => 16
  | .smem => 0
  | _ => 0

abbrev bufTy : (tb : Table) → Fin (tcTables nBuf tb) → BufTy
  | .hbm, ⟨0, _⟩ => ⟨S1280x7168, .i8⟩
  | .hbm, ⟨1, _⟩ => ⟨S80x7168, .i32⟩
  | .hbm, ⟨2, _⟩ => ⟨S768x7168, .i8⟩
  | .hbm, ⟨3, _⟩ => ⟨S48x7168, .i32⟩
  | .hbm, ⟨4, _⟩ => ⟨S1536x2560, .bf16⟩
  | .hbm, ⟨5, _⟩ => ⟨S2560x1536, .bf16⟩
  | .hbm, ⟨6, _⟩ => ⟨S1536x7168, .bf16⟩
  | .hbm, ⟨7, _⟩ => ⟨S2560x7168, .f32⟩
  | .local _ .vmem, ⟨0, _⟩ => ⟨S1280x512, .i8⟩
  | .local _ .vmem, ⟨1, _⟩ => ⟨S1280x512, .i8⟩
  | .local _ .vmem, ⟨2, _⟩ => ⟨S80x512, .i32⟩
  | .local _ .vmem, ⟨3, _⟩ => ⟨S80x512, .i32⟩
  | .local _ .vmem, ⟨4, _⟩ => ⟨S768x512, .i8⟩
  | .local _ .vmem, ⟨5, _⟩ => ⟨S768x512, .i8⟩
  | .local _ .vmem, ⟨6, _⟩ => ⟨S48x512, .i32⟩
  | .local _ .vmem, ⟨7, _⟩ => ⟨S48x512, .i32⟩
  | .local _ .vmem, ⟨8, _⟩ => ⟨S1536x2560, .bf16⟩
  | .local _ .vmem, ⟨9, _⟩ => ⟨S2560x1536, .bf16⟩
  | .local _ .vmem, ⟨10, _⟩ => ⟨S1536x512, .bf16⟩
  | .local _ .vmem, ⟨11, _⟩ => ⟨S1536x512, .bf16⟩
  | .local _ .vmem, ⟨12, _⟩ => ⟨S2560x512, .f32⟩
  | .local _ .vmem, ⟨13, _⟩ => ⟨S2560x512, .f32⟩
  | .local _ .vmem, ⟨14, _⟩ => ⟨S2560x512, .bf16⟩
  | .local _ .vmem, ⟨15, _⟩ => ⟨S1536x512, .bf16⟩
  | _, _ => ⟨S1280x7168, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1280x512 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S80x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S48x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1536x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2560x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1536x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2560x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S1280x7168 : Shape := ⟨2, ![1280, 7168]⟩
abbrev S80x7168 : Shape := ⟨2, ![80, 7168]⟩
abbrev S768x7168 : Shape := ⟨2, ![768, 7168]⟩
abbrev S48x7168 : Shape := ⟨2, ![48, 7168]⟩
abbrev S1536x2560 : Shape := ⟨2, ![1536, 2560]⟩
abbrev S2560x1536 : Shape := ⟨2, ![2560, 1536]⟩
abbrev S1536x10x2x128 : Shape := ⟨4, ![1536, 10, 2, 128]⟩
abbrev S1536x10x1x128 : Shape := ⟨4, ![1536, 10, 1, 128]⟩
abbrev S1536x10x128 : Shape := ⟨3, ![1536, 10, 128]⟩
abbrev S1536x1280 : Shape := ⟨2, ![1536, 1280]⟩
abbrev S2560x6x2x128 : Shape := ⟨4, ![2560, 6, 2, 128]⟩
abbrev S2560x6x1x128 : Shape := ⟨4, ![2560, 6, 1, 128]⟩
abbrev S2560x6x128 : Shape := ⟨3, ![2560, 6, 128]⟩
abbrev S2560x768 : Shape := ⟨2, ![2560, 768]⟩
abbrev S_ : Shape := ⟨0, ![]⟩
abbrev S80x16x7168 : Shape := ⟨3, ![80, 16, 7168]⟩
abbrev S80x1x7168 : Shape := ⟨3, ![80, 1, 7168]⟩
abbrev S48x16x7168 : Shape := ⟨3, ![48, 16, 7168]⟩
abbrev S48x1x7168 : Shape := ⟨3, ![48, 1, 7168]⟩
abbrev S1536x7168 : Shape := ⟨2, ![1536, 7168]⟩
abbrev S2560x7168 : Shape := ⟨2, ![2560, 7168]⟩

abbrev nBuf : Space → Nat
  | .hbm => 287
  | .vmem => 0
  | .smem => 0
  | _ => 0

abbrev hbmTy0_0 (i : Nat) : BufTy := match i % 128 with
  | 0 => ⟨S1280x7168, .i8⟩
  | 1 => ⟨S80x7168, .i32⟩
  | 2 => ⟨S768x7168, .i8⟩
  | 3 => ⟨S48x7168, .i32⟩
  | 4 => ⟨S1536x2560, .bf16⟩
  | 5 => ⟨S2560x1536, .bf16⟩
  | 6 => ⟨S1536x10x2x128, .bf16⟩
  | 7 => ⟨S1536x10x1x128, .bf16⟩
  | 8 => ⟨S1536x10x128, .bf16⟩
  | 9 => ⟨S1536x1280, .bf16⟩
  | 10 => ⟨S1536x10x1x128, .bf16⟩
  | 11 => ⟨S1536x10x128, .bf16⟩
  | 12 => ⟨S1536x1280, .bf16⟩
  | 13 => ⟨S2560x6x2x128, .bf16⟩
  | 14 => ⟨S2560x6x1x128, .bf16⟩
  | 15 => ⟨S2560x6x128, .bf16⟩
  | 16 => ⟨S2560x768, .bf16⟩
  | 17 => ⟨S2560x6x1x128, .bf16⟩
  | 18 => ⟨S2560x6x128, .bf16⟩
  | 19 => ⟨S2560x768, .bf16⟩
  | 20 => ⟨S1280x7168, .i32⟩
  | 21 => ⟨S768x7168, .i32⟩
  | 22 => ⟨S_, .i32⟩
  | 23 => ⟨S1280x7168, .i32⟩
  | 24 => ⟨S1280x7168, .i32⟩
  | 25 => ⟨S_, .i32⟩
  | 26 => ⟨S1280x7168, .i32⟩
  | 27 => ⟨S1280x7168, .i32⟩
  | 28 => ⟨S_, .i32⟩
  | 29 => ⟨S1280x7168, .i32⟩
  | 30 => ⟨S1280x7168, .i1⟩
  | 31 => ⟨S_, .i32⟩
  | 32 => ⟨S1280x7168, .i32⟩
  | 33 => ⟨S1280x7168, .i32⟩
  | 34 => ⟨S_, .i32⟩
  | 35 => ⟨S1280x7168, .i32⟩
  | 36 => ⟨S1280x7168, .i1⟩
  | 37 => ⟨S_, .i32⟩
  | 38 => ⟨S1280x7168, .i32⟩
  | 39 => ⟨S1280x7168, .i32⟩
  | 40 => ⟨S_, .i32⟩
  | 41 => ⟨S1280x7168, .i32⟩
  | 42 => ⟨S1280x7168, .i1⟩
  | 43 => ⟨S_, .i32⟩
  | 44 => ⟨S1280x7168, .i32⟩
  | 45 => ⟨S1280x7168, .i32⟩
  | 46 => ⟨S_, .i32⟩
  | 47 => ⟨S1280x7168, .i32⟩
  | 48 => ⟨S1280x7168, .i1⟩
  | 49 => ⟨S_, .f32⟩
  | 50 => ⟨S_, .f32⟩
  | 51 => ⟨S1280x7168, .f32⟩
  | 52 => ⟨S1280x7168, .f32⟩
  | 53 => ⟨S1280x7168, .f32⟩
  | 54 => ⟨S_, .f32⟩
  | 55 => ⟨S_, .f32⟩
  | 56 => ⟨S1280x7168, .f32⟩
  | 57 => ⟨S1280x7168, .f32⟩
  | 58 => ⟨S1280x7168, .f32⟩
  | 59 => ⟨S1280x7168, .f32⟩
  | 60 => ⟨S_, .f32⟩
  | 61 => ⟨S_, .f32⟩
  | 62 => ⟨S1280x7168, .f32⟩
  | 63 => ⟨S1280x7168, .f32⟩
  | 64 => ⟨S1280x7168, .f32⟩
  | 65 => ⟨S_, .f32⟩
  | 66 => ⟨S_, .f32⟩
  | 67 => ⟨S1280x7168, .f32⟩
  | 68 => ⟨S1280x7168, .f32⟩
  | 69 => ⟨S1280x7168, .f32⟩
  | 70 => ⟨S1280x7168, .f32⟩
  | 71 => ⟨S1280x7168, .f32⟩
  | 72 => ⟨S1280x7168, .f32⟩
  | 73 => ⟨S1280x7168, .f32⟩
  | 74 => ⟨S1280x7168, .bf16⟩
  | 75 => ⟨S_, .i32⟩
  | 76 => ⟨S80x7168, .i32⟩
  | 77 => ⟨S80x7168, .i32⟩
  | 78 => ⟨S80x7168, .f32⟩
  | 79 => ⟨S80x7168, .bf16⟩
  | 80 => ⟨S80x16x7168, .bf16⟩
  | 81 => ⟨S80x1x7168, .bf16⟩
  | 82 => ⟨S80x16x7168, .bf16⟩
  | 83 => ⟨S80x16x7168, .bf16⟩
  | 84 => ⟨S1280x7168, .bf16⟩
  | 85 => ⟨S_, .i32⟩
  | 86 => ⟨S1280x7168, .i32⟩
  | 87 => ⟨S1280x7168, .i32⟩
  | 88 => ⟨S_, .i32⟩
  | 89 => ⟨S1280x7168, .i32⟩
  | 90 => ⟨S1280x7168, .i32⟩
  | 91 => ⟨S_, .i32⟩
  | 92 => ⟨S1280x7168, .i32⟩
  | 93 => ⟨S1280x7168, .i1⟩
  | 94 => ⟨S_, .i32⟩
  | 95 => ⟨S1280x7168, .i32⟩
  | 96 => ⟨S1280x7168, .i32⟩
  | 97 => ⟨S_, .i32⟩
  | 98 => ⟨S1280x7168, .i32⟩
  | 99 => ⟨S1280x7168, .i1⟩
  | 100 => ⟨S_, .i32⟩
  | 101 => ⟨S1280x7168, .i32⟩
  | 102 => ⟨S1280x7168, .i32⟩
  | 103 => ⟨S_, .i32⟩
  | 104 => ⟨S1280x7168, .i32⟩
  | 105 => ⟨S1280x7168, .i1⟩
  | 106 => ⟨S_, .i32⟩
  | 107 => ⟨S1280x7168, .i32⟩
  | 108 => ⟨S1280x7168, .i32⟩
  | 109 => ⟨S_, .i32⟩
  | 110 => ⟨S1280x7168, .i32⟩
  | 111 => ⟨S1280x7168, .i1⟩
  | 112 => ⟨S_, .f32⟩
  | 113 => ⟨S_, .f32⟩
  | 114 => ⟨S1280x7168, .f32⟩
  | 115 => ⟨S1280x7168, .f32⟩
  | 116 => ⟨S1280x7168, .f32⟩
  | 117 => ⟨S_, .f32⟩
  | 118 => ⟨S_, .f32⟩
  | 119 => ⟨S1280x7168, .f32⟩
  | 120 => ⟨S1280x7168, .f32⟩
  | 121 => ⟨S1280x7168, .f32⟩
  | 122 => ⟨S1280x7168, .f32⟩
  | 123 => ⟨S_, .f32⟩
  | 124 => ⟨S_, .f32⟩
  | 125 => ⟨S1280x7168, .f32⟩
  | 126 => ⟨S1280x7168, .f32⟩
  | 127 => ⟨S1280x7168, .f32⟩
  | _ => ⟨S1280x7168, .i8⟩

abbrev hbmTy0_1 (i : Nat) : BufTy := match i % 128 with
  | 0 => ⟨S_, .f32⟩
  | 1 => ⟨S_, .f32⟩
  | 2 => ⟨S1280x7168, .f32⟩
  | 3 => ⟨S1280x7168, .f32⟩
  | 4 => ⟨S1280x7168, .f32⟩
  | 5 => ⟨S1280x7168, .f32⟩
  | 6 => ⟨S1280x7168, .f32⟩
  | 7 => ⟨S1280x7168, .f32⟩
  | 8 => ⟨S1280x7168, .f32⟩
  | 9 => ⟨S1280x7168, .bf16⟩
  | 10 => ⟨S_, .i32⟩
  | 11 => ⟨S80x7168, .i32⟩
  | 12 => ⟨S80x7168, .i32⟩
  | 13 => ⟨S80x7168, .f32⟩
  | 14 => ⟨S80x7168, .bf16⟩
  | 15 => ⟨S80x16x7168, .bf16⟩
  | 16 => ⟨S80x1x7168, .bf16⟩
  | 17 => ⟨S80x16x7168, .bf16⟩
  | 18 => ⟨S80x16x7168, .bf16⟩
  | 19 => ⟨S1280x7168, .bf16⟩
  | 20 => ⟨S_, .i32⟩
  | 21 => ⟨S768x7168, .i32⟩
  | 22 => ⟨S768x7168, .i32⟩
  | 23 => ⟨S_, .i32⟩
  | 24 => ⟨S768x7168, .i32⟩
  | 25 => ⟨S768x7168, .i32⟩
  | 26 => ⟨S_, .i32⟩
  | 27 => ⟨S768x7168, .i32⟩
  | 28 => ⟨S768x7168, .i1⟩
  | 29 => ⟨S_, .i32⟩
  | 30 => ⟨S768x7168, .i32⟩
  | 31 => ⟨S768x7168, .i32⟩
  | 32 => ⟨S_, .i32⟩
  | 33 => ⟨S768x7168, .i32⟩
  | 34 => ⟨S768x7168, .i1⟩
  | 35 => ⟨S_, .i32⟩
  | 36 => ⟨S768x7168, .i32⟩
  | 37 => ⟨S768x7168, .i32⟩
  | 38 => ⟨S_, .i32⟩
  | 39 => ⟨S768x7168, .i32⟩
  | 40 => ⟨S768x7168, .i1⟩
  | 41 => ⟨S_, .i32⟩
  | 42 => ⟨S768x7168, .i32⟩
  | 43 => ⟨S768x7168, .i32⟩
  | 44 => ⟨S_, .i32⟩
  | 45 => ⟨S768x7168, .i32⟩
  | 46 => ⟨S768x7168, .i1⟩
  | 47 => ⟨S_, .f32⟩
  | 48 => ⟨S_, .f32⟩
  | 49 => ⟨S768x7168, .f32⟩
  | 50 => ⟨S768x7168, .f32⟩
  | 51 => ⟨S768x7168, .f32⟩
  | 52 => ⟨S_, .f32⟩
  | 53 => ⟨S_, .f32⟩
  | 54 => ⟨S768x7168, .f32⟩
  | 55 => ⟨S768x7168, .f32⟩
  | 56 => ⟨S768x7168, .f32⟩
  | 57 => ⟨S768x7168, .f32⟩
  | 58 => ⟨S_, .f32⟩
  | 59 => ⟨S_, .f32⟩
  | 60 => ⟨S768x7168, .f32⟩
  | 61 => ⟨S768x7168, .f32⟩
  | 62 => ⟨S768x7168, .f32⟩
  | 63 => ⟨S_, .f32⟩
  | 64 => ⟨S_, .f32⟩
  | 65 => ⟨S768x7168, .f32⟩
  | 66 => ⟨S768x7168, .f32⟩
  | 67 => ⟨S768x7168, .f32⟩
  | 68 => ⟨S768x7168, .f32⟩
  | 69 => ⟨S768x7168, .f32⟩
  | 70 => ⟨S768x7168, .f32⟩
  | 71 => ⟨S768x7168, .f32⟩
  | 72 => ⟨S768x7168, .bf16⟩
  | 73 => ⟨S_, .i32⟩
  | 74 => ⟨S48x7168, .i32⟩
  | 75 => ⟨S48x7168, .i32⟩
  | 76 => ⟨S48x7168, .f32⟩
  | 77 => ⟨S48x7168, .bf16⟩
  | 78 => ⟨S48x16x7168, .bf16⟩
  | 79 => ⟨S48x1x7168, .bf16⟩
  | 80 => ⟨S48x16x7168, .bf16⟩
  | 81 => ⟨S48x16x7168, .bf16⟩
  | 82 => ⟨S768x7168, .bf16⟩
  | 83 => ⟨S_, .i32⟩
  | 84 => ⟨S768x7168, .i32⟩
  | 85 => ⟨S768x7168, .i32⟩
  | 86 => ⟨S_, .i32⟩
  | 87 => ⟨S768x7168, .i32⟩
  | 88 => ⟨S768x7168, .i32⟩
  | 89 => ⟨S_, .i32⟩
  | 90 => ⟨S768x7168, .i32⟩
  | 91 => ⟨S768x7168, .i1⟩
  | 92 => ⟨S_, .i32⟩
  | 93 => ⟨S768x7168, .i32⟩
  | 94 => ⟨S768x7168, .i32⟩
  | 95 => ⟨S_, .i32⟩
  | 96 => ⟨S768x7168, .i32⟩
  | 97 => ⟨S768x7168, .i1⟩
  | 98 => ⟨S_, .i32⟩
  | 99 => ⟨S768x7168, .i32⟩
  | 100 => ⟨S768x7168, .i32⟩
  | 101 => ⟨S_, .i32⟩
  | 102 => ⟨S768x7168, .i32⟩
  | 103 => ⟨S768x7168, .i1⟩
  | 104 => ⟨S_, .i32⟩
  | 105 => ⟨S768x7168, .i32⟩
  | 106 => ⟨S768x7168, .i32⟩
  | 107 => ⟨S_, .i32⟩
  | 108 => ⟨S768x7168, .i32⟩
  | 109 => ⟨S768x7168, .i1⟩
  | 110 => ⟨S_, .f32⟩
  | 111 => ⟨S_, .f32⟩
  | 112 => ⟨S768x7168, .f32⟩
  | 113 => ⟨S768x7168, .f32⟩
  | 114 => ⟨S768x7168, .f32⟩
  | 115 => ⟨S_, .f32⟩
  | 116 => ⟨S_, .f32⟩
  | 117 => ⟨S768x7168, .f32⟩
  | 118 => ⟨S768x7168, .f32⟩
  | 119 => ⟨S768x7168, .f32⟩
  | 120 => ⟨S768x7168, .f32⟩
  | 121 => ⟨S_, .f32⟩
  | 122 => ⟨S_, .f32⟩
  | 123 => ⟨S768x7168, .f32⟩
  | 124 => ⟨S768x7168, .f32⟩
  | 125 => ⟨S768x7168, .f32⟩
  | 126 => ⟨S_, .f32⟩
  | 127 => ⟨S_, .f32⟩
  | _ => ⟨S1280x7168, .i8⟩

abbrev hbmTy0_2 (i : Nat) : BufTy := match i % 128 with
  | 0 => ⟨S768x7168, .f32⟩
  | 1 => ⟨S768x7168, .f32⟩
  | 2 => ⟨S768x7168, .f32⟩
  | 3 => ⟨S768x7168, .f32⟩
  | 4 => ⟨S768x7168, .f32⟩
  | 5 => ⟨S768x7168, .f32⟩
  | 6 => ⟨S768x7168, .f32⟩
  | 7 => ⟨S768x7168, .bf16⟩
  | 8 => ⟨S_, .i32⟩
  | 9 => ⟨S48x7168, .i32⟩
  | 10 => ⟨S48x7168, .i32⟩
  | 11 => ⟨S48x7168, .f32⟩
  | 12 => ⟨S48x7168, .bf16⟩
  | 13 => ⟨S48x16x7168, .bf16⟩
  | 14 => ⟨S48x1x7168, .bf16⟩
  | 15 => ⟨S48x16x7168, .bf16⟩
  | 16 => ⟨S48x16x7168, .bf16⟩
  | 17 => ⟨S768x7168, .bf16⟩
  | 18 => ⟨S1536x7168, .f32⟩
  | 19 => ⟨S1536x7168, .f32⟩
  | 20 => ⟨S1536x7168, .f32⟩
  | 21 => ⟨S_, .f32⟩
  | 22 => ⟨S1536x7168, .f32⟩
  | 23 => ⟨S1536x7168, .f32⟩
  | 24 => ⟨S1536x7168, .bf16⟩
  | 25 => ⟨S2560x7168, .f32⟩
  | 26 => ⟨S2560x7168, .f32⟩
  | 27 => ⟨S2560x7168, .f32⟩
  | 28 => ⟨S_, .f32⟩
  | 29 => ⟨S2560x7168, .f32⟩
  | 30 => ⟨S2560x7168, .f32⟩
  | _ => ⟨S1280x7168, .i8⟩

abbrev hbmTy (i : Nat) : BufTy := match i / 128 with
  | 0 => hbmTy0_0 i
  | 1 => hbmTy0_1 i
  | 2 => hbmTy0_2 i
  | _ => ⟨S1280x7168, .i8⟩

abbrev bufTy : (tb : Table) → Fin (tcTables nBuf tb) → BufTy
  | .hbm, ⟨i, _⟩ => hbmTy i
  | _, _ => ⟨S1280x7168, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_c_0 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_c_4 : Ref sig .tc := ⟨.hbm, 37, rfl⟩
abbrev main_v26 : Ref sig .tc := ⟨.hbm, 38, rfl⟩
abbrev main_v27 : Ref sig .tc := ⟨.hbm, 39, rfl⟩
abbrev main_c_5 : Ref sig .tc := ⟨.hbm, 40, rfl⟩
abbrev main_v28 : Ref sig .tc := ⟨.hbm, 41, rfl⟩
abbrev main_v29 : Ref sig .tc := ⟨.hbm, 42, rfl⟩
abbrev main_c_6 : Ref sig .tc := ⟨.hbm, 43, rfl⟩
abbrev main_v30 : Ref sig .tc := ⟨.hbm, 44, rfl⟩
abbrev main_v31 : Ref sig .tc := ⟨.hbm, 45, rfl⟩
abbrev main_c_7 : Ref sig .tc := ⟨.hbm, 46, rfl⟩
abbrev main_v32 : Ref sig .tc := ⟨.hbm, 47, rfl⟩
abbrev main_v33 : Ref sig .tc := ⟨.hbm, 48, rfl⟩
abbrev main_cst : Ref sig .tc := ⟨.hbm, 49, rfl⟩
abbrev main_cst_8 : Ref sig .tc := ⟨.hbm, 50, rfl⟩
abbrev main_call0_v0 : Ref sig .tc := ⟨.hbm, 51, rfl⟩
abbrev main_call0_v1 : Ref sig .tc := ⟨.hbm, 52, rfl⟩
abbrev main_v34 : Ref sig .tc := ⟨.hbm, 53, rfl⟩
abbrev main_cst_9 : Ref sig .tc := ⟨.hbm, 54, rfl⟩
abbrev main_cst_10 : Ref sig .tc := ⟨.hbm, 55, rfl⟩
abbrev main_call1_v0 : Ref sig .tc := ⟨.hbm, 56, rfl⟩
abbrev main_call1_v1 : Ref sig .tc := ⟨.hbm, 57, rfl⟩
abbrev main_v35 : Ref sig .tc := ⟨.hbm, 58, rfl⟩
abbrev main_v36 : Ref sig .tc := ⟨.hbm, 59, rfl⟩
abbrev main_cst_11 : Ref sig .tc := ⟨.hbm, 60, rfl⟩
abbrev main_cst_12 : Ref sig .tc := ⟨.hbm, 61, rfl⟩
abbrev main_call3_v0 : Ref sig .tc := ⟨.hbm, 62, rfl⟩
abbrev main_call3_v1 : Ref sig .tc := ⟨.hbm, 63, rfl⟩
abbrev main_v37 : Ref sig .tc := ⟨.hbm, 64, rfl⟩
abbrev main_cst_13 : Ref sig .tc := ⟨.hbm, 65, rfl⟩
abbrev main_cst_14 : Ref sig .tc := ⟨.hbm, 66, rfl⟩
abbrev main_call4_v0 : Ref sig .tc := ⟨.hbm, 67, rfl⟩
abbrev main_call4_v1 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_c_15 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_c_16 : Ref sig .tc := ⟨.hbm, 85, rfl⟩
abbrev main_v53 : Ref sig .tc := ⟨.hbm, 86, rfl⟩
abbrev main_v54 : Ref sig .tc := ⟨.hbm, 87, rfl⟩
abbrev main_c_17 : Ref sig .tc := ⟨.hbm, 88, rfl⟩
abbrev main_v55 : Ref sig .tc := ⟨.hbm, 89, rfl⟩
abbrev main_v56 : Ref sig .tc := ⟨.hbm, 90, rfl⟩
abbrev main_c_18 : Ref sig .tc := ⟨.hbm, 91, rfl⟩
abbrev main_v57 : Ref sig .tc := ⟨.hbm, 92, rfl⟩
abbrev main_v58 : Ref sig .tc := ⟨.hbm, 93, rfl⟩
abbrev main_c_19 : Ref sig .tc := ⟨.hbm, 94, rfl⟩
abbrev main_v59 : Ref sig .tc := ⟨.hbm, 95, rfl⟩
abbrev main_v60 : Ref sig .tc := ⟨.hbm, 96, rfl⟩
abbrev main_c_20 : Ref sig .tc := ⟨.hbm, 97, rfl⟩
abbrev main_v61 : Ref sig .tc := ⟨.hbm, 98, rfl⟩
abbrev main_v62 : Ref sig .tc := ⟨.hbm, 99, rfl⟩
abbrev main_c_21 : Ref sig .tc := ⟨.hbm, 100, rfl⟩
abbrev main_v63 : Ref sig .tc := ⟨.hbm, 101, rfl⟩
abbrev main_v64 : Ref sig .tc := ⟨.hbm, 102, rfl⟩
abbrev main_c_22 : Ref sig .tc := ⟨.hbm, 103, rfl⟩
abbrev main_v65 : Ref sig .tc := ⟨.hbm, 104, rfl⟩
abbrev main_v66 : Ref sig .tc := ⟨.hbm, 105, rfl⟩
abbrev main_c_23 : Ref sig .tc := ⟨.hbm, 106, rfl⟩
abbrev main_v67 : Ref sig .tc := ⟨.hbm, 107, rfl⟩
abbrev main_v68 : Ref sig .tc := ⟨.hbm, 108, rfl⟩
abbrev main_c_24 : Ref sig .tc := ⟨.hbm, 109, rfl⟩
abbrev main_v69 : Ref sig .tc := ⟨.hbm, 110, rfl⟩
abbrev main_v70 : Ref sig .tc := ⟨.hbm, 111, rfl⟩
abbrev main_cst_25 : Ref sig .tc := ⟨.hbm, 112, rfl⟩
abbrev main_cst_26 : Ref sig .tc := ⟨.hbm, 113, rfl⟩
abbrev main_call8_v0 : Ref sig .tc := ⟨.hbm, 114, rfl⟩
abbrev main_call8_v1 : Ref sig .tc := ⟨.hbm, 115, rfl⟩
abbrev main_v71 : Ref sig .tc := ⟨.hbm, 116, rfl⟩
abbrev main_cst_27 : Ref sig .tc := ⟨.hbm, 117, rfl⟩
abbrev main_cst_28 : Ref sig .tc := ⟨.hbm, 118, rfl⟩
abbrev main_call9_v0 : Ref sig .tc := ⟨.hbm, 119, rfl⟩
abbrev main_call9_v1 : Ref sig .tc := ⟨.hbm, 120, rfl⟩
abbrev main_v72 : Ref sig .tc := ⟨.hbm, 121, rfl⟩
abbrev main_v73 : Ref sig .tc := ⟨.hbm, 122, rfl⟩
abbrev main_cst_29 : Ref sig .tc := ⟨.hbm, 123, rfl⟩
abbrev main_cst_30 : Ref sig .tc := ⟨.hbm, 124, rfl⟩
abbrev main_call11_v0 : Ref sig .tc := ⟨.hbm, 125, rfl⟩
abbrev main_call11_v1 : Ref sig .tc := ⟨.hbm, 126, rfl⟩
abbrev main_v74 : Ref sig .tc := ⟨.hbm, 127, rfl⟩
abbrev main_cst_31 : Ref sig .tc := ⟨.hbm, 128, rfl⟩
abbrev main_cst_32 : Ref sig .tc := ⟨.hbm, 129, rfl⟩
abbrev main_call12_v0 : Ref sig .tc := ⟨.hbm, 130, rfl⟩
abbrev main_call12_v1 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_c_33 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_c_34 : Ref sig .tc := ⟨.hbm, 148, rfl⟩
abbrev main_v90 : Ref sig .tc := ⟨.hbm, 149, rfl⟩
abbrev main_v91 : Ref sig .tc := ⟨.hbm, 150, rfl⟩
abbrev main_c_35 : Ref sig .tc := ⟨.hbm, 151, rfl⟩
abbrev main_v92 : Ref sig .tc := ⟨.hbm, 152, rfl⟩
abbrev main_v93 : Ref sig .tc := ⟨.hbm, 153, rfl⟩
abbrev main_c_36 : Ref sig .tc := ⟨.hbm, 154, rfl⟩
abbrev main_v94 : Ref sig .tc := ⟨.hbm, 155, rfl⟩
abbrev main_v95 : Ref sig .tc := ⟨.hbm, 156, rfl⟩
abbrev main_c_37 : Ref sig .tc := ⟨.hbm, 157, rfl⟩
abbrev main_v96 : Ref sig .tc := ⟨.hbm, 158, rfl⟩
abbrev main_v97 : Ref sig .tc := ⟨.hbm, 159, rfl⟩
abbrev main_c_38 : Ref sig .tc := ⟨.hbm, 160, rfl⟩
abbrev main_v98 : Ref sig .tc := ⟨.hbm, 161, rfl⟩
abbrev main_v99 : Ref sig .tc := ⟨.hbm, 162, rfl⟩
abbrev main_c_39 : Ref sig .tc := ⟨.hbm, 163, rfl⟩
abbrev main_v100 : Ref sig .tc := ⟨.hbm, 164, rfl⟩
abbrev main_v101 : Ref sig .tc := ⟨.hbm, 165, rfl⟩
abbrev main_c_40 : Ref sig .tc := ⟨.hbm, 166, rfl⟩
abbrev main_v102 : Ref sig .tc := ⟨.hbm, 167, rfl⟩
abbrev main_v103 : Ref sig .tc := ⟨.hbm, 168, rfl⟩
abbrev main_c_41 : Ref sig .tc := ⟨.hbm, 169, rfl⟩
abbrev main_v104 : Ref sig .tc := ⟨.hbm, 170, rfl⟩
abbrev main_v105 : Ref sig .tc := ⟨.hbm, 171, rfl⟩
abbrev main_c_42 : Ref sig .tc := ⟨.hbm, 172, rfl⟩
abbrev main_v106 : Ref sig .tc := ⟨.hbm, 173, rfl⟩
abbrev main_v107 : Ref sig .tc := ⟨.hbm, 174, rfl⟩
abbrev main_cst_43 : Ref sig .tc := ⟨.hbm, 175, rfl⟩
abbrev main_cst_44 : Ref sig .tc := ⟨.hbm, 176, rfl⟩
abbrev main_call16_v0 : Ref sig .tc := ⟨.hbm, 177, rfl⟩
abbrev main_call16_v1 : Ref sig .tc := ⟨.hbm, 178, rfl⟩
abbrev main_v108 : Ref sig .tc := ⟨.hbm, 179, rfl⟩
abbrev main_cst_45 : Ref sig .tc := ⟨.hbm, 180, rfl⟩
abbrev main_cst_46 : Ref sig .tc := ⟨.hbm, 181, rfl⟩
abbrev main_call17_v0 : Ref sig .tc := ⟨.hbm, 182, rfl⟩
abbrev main_call17_v1 : Ref sig .tc := ⟨.hbm, 183, rfl⟩
abbrev main_v109 : Ref sig .tc := ⟨.hbm, 184, rfl⟩
abbrev main_v110 : Ref sig .tc := ⟨.hbm, 185, rfl⟩
abbrev main_cst_47 : Ref sig .tc := ⟨.hbm, 186, rfl⟩
abbrev main_cst_48 : Ref sig .tc := ⟨.hbm, 187, rfl⟩
abbrev main_call19_v0 : Ref sig .tc := ⟨.hbm, 188, rfl⟩
abbrev main_call19_v1 : Ref sig .tc := ⟨.hbm, 189, rfl⟩
abbrev main_v111 : Ref sig .tc := ⟨.hbm, 190, rfl⟩
abbrev main_cst_49 : Ref sig .tc := ⟨.hbm, 191, rfl⟩
abbrev main_cst_50 : Ref sig .tc := ⟨.hbm, 192, rfl⟩
abbrev main_call20_v0 : Ref sig .tc := ⟨.hbm, 193, rfl⟩
abbrev main_call20_v1 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_v115 : Ref sig .tc := ⟨.hbm, 198, rfl⟩
abbrev main_v116 : Ref sig .tc := ⟨.hbm, 199, rfl⟩
abbrev main_v117 : Ref sig .tc := ⟨.hbm, 200, rfl⟩
abbrev main_c_51 : Ref sig .tc := ⟨.hbm, 201, rfl⟩
abbrev main_v118 : Ref sig .tc := ⟨.hbm, 202, rfl⟩
abbrev main_v119 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_v125 : Ref sig .tc := ⟨.hbm, 209, rfl⟩
abbrev main_v126 : Ref sig .tc := ⟨.hbm, 210, rfl⟩
abbrev main_c_52 : Ref sig .tc := ⟨.hbm, 211, rfl⟩
abbrev main_v127 : Ref sig .tc := ⟨.hbm, 212, rfl⟩
abbrev main_v128 : Ref sig .tc := ⟨.hbm, 213, rfl⟩
abbrev main_c_53 : Ref sig .tc := ⟨.hbm, 214, rfl⟩
abbrev main_v129 : Ref sig .tc := ⟨.hbm, 215, rfl⟩
abbrev main_v130 : Ref sig .tc := ⟨.hbm, 216, rfl⟩
abbrev main_c_54 : Ref sig .tc := ⟨.hbm, 217, rfl⟩
abbrev main_v131 : Ref sig .tc := ⟨.hbm, 218, rfl⟩
abbrev main_v132 : Ref sig .tc := ⟨.hbm, 219, rfl⟩
abbrev main_c_55 : Ref sig .tc := ⟨.hbm, 220, rfl⟩
abbrev main_v133 : Ref sig .tc := ⟨.hbm, 221, rfl⟩
abbrev main_v134 : Ref sig .tc := ⟨.hbm, 222, rfl⟩
abbrev main_c_56 : Ref sig .tc := ⟨.hbm, 223, rfl⟩
abbrev main_v135 : Ref sig .tc := ⟨.hbm, 224, rfl⟩
abbrev main_v136 : Ref sig .tc := ⟨.hbm, 225, rfl⟩
abbrev main_c_57 : Ref sig .tc := ⟨.hbm, 226, rfl⟩
abbrev main_v137 : Ref sig .tc := ⟨.hbm, 227, rfl⟩
abbrev main_v138 : Ref sig .tc := ⟨.hbm, 228, rfl⟩
abbrev main_c_58 : Ref sig .tc := ⟨.hbm, 229, rfl⟩
abbrev main_v139 : Ref sig .tc := ⟨.hbm, 230, rfl⟩
abbrev main_v140 : Ref sig .tc := ⟨.hbm, 231, rfl⟩
abbrev main_c_59 : Ref sig .tc := ⟨.hbm, 232, rfl⟩
abbrev main_v141 : Ref sig .tc := ⟨.hbm, 233, rfl⟩
abbrev main_v142 : Ref sig .tc := ⟨.hbm, 234, rfl⟩
abbrev main_c_60 : Ref sig .tc := ⟨.hbm, 235, rfl⟩
abbrev main_v143 : Ref sig .tc := ⟨.hbm, 236, rfl⟩
abbrev main_v144 : Ref sig .tc := ⟨.hbm, 237, rfl⟩
abbrev main_cst_61 : Ref sig .tc := ⟨.hbm, 238, rfl⟩
abbrev main_cst_62 : Ref sig .tc := ⟨.hbm, 239, rfl⟩
abbrev main_call24_v0 : Ref sig .tc := ⟨.hbm, 240, rfl⟩
abbrev main_call24_v1 : Ref sig .tc := ⟨.hbm, 241, rfl⟩
abbrev main_v145 : Ref sig .tc := ⟨.hbm, 242, rfl⟩
abbrev main_cst_63 : Ref sig .tc := ⟨.hbm, 243, rfl⟩
abbrev main_cst_64 : Ref sig .tc := ⟨.hbm, 244, rfl⟩
abbrev main_call25_v0 : Ref sig .tc := ⟨.hbm, 245, rfl⟩
abbrev main_call25_v1 : Ref sig .tc := ⟨.hbm, 246, rfl⟩
abbrev main_v146 : Ref sig .tc := ⟨.hbm, 247, rfl⟩
abbrev main_v147 : Ref sig .tc := ⟨.hbm, 248, rfl⟩
abbrev main_cst_65 : Ref sig .tc := ⟨.hbm, 249, rfl⟩
abbrev main_cst_66 : Ref sig .tc := ⟨.hbm, 250, rfl⟩
abbrev main_call27_v0 : Ref sig .tc := ⟨.hbm, 251, rfl⟩
abbrev main_call27_v1 : Ref sig .tc := ⟨.hbm, 252, rfl⟩
abbrev main_v148 : Ref sig .tc := ⟨.hbm, 253, rfl⟩
abbrev main_cst_67 : Ref sig .tc := ⟨.hbm, 254, rfl⟩
abbrev main_cst_68 : Ref sig .tc := ⟨.hbm, 255, rfl⟩
abbrev main_call28_v0 : Ref sig .tc := ⟨.hbm, 256, rfl⟩
abbrev main_call28_v1 : Ref sig .tc := ⟨.hbm, 257, rfl⟩
abbrev main_v149 : Ref sig .tc := ⟨.hbm, 258, rfl⟩
abbrev main_v150 : Ref sig .tc := ⟨.hbm, 259, rfl⟩
abbrev main_v151 : Ref sig .tc := ⟨.hbm, 260, rfl⟩
abbrev main_v152 : Ref sig .tc := ⟨.hbm, 261, rfl⟩
abbrev main_v153 : Ref sig .tc := ⟨.hbm, 262, rfl⟩
abbrev main_v154 : Ref sig .tc := ⟨.hbm, 263, rfl⟩
abbrev main_c_69 : Ref sig .tc := ⟨.hbm, 264, rfl⟩
abbrev main_v155 : Ref sig .tc := ⟨.hbm, 265, rfl⟩
abbrev main_v156 : Ref sig .tc := ⟨.hbm, 266, rfl⟩
abbrev main_v157 : Ref sig .tc := ⟨.hbm, 267, rfl⟩
abbrev main_v158 : Ref sig .tc := ⟨.hbm, 268, rfl⟩
abbrev main_v159 : Ref sig .tc := ⟨.hbm, 269, rfl⟩
abbrev main_v160 : Ref sig .tc := ⟨.hbm, 270, rfl⟩
abbrev main_v161 : Ref sig .tc := ⟨.hbm, 271, rfl⟩
abbrev main_v162 : Ref sig .tc := ⟨.hbm, 272, rfl⟩
abbrev main_v163 : Ref sig .tc := ⟨.hbm, 273, rfl⟩
abbrev main_v164 : Ref sig .tc := ⟨.hbm, 274, rfl⟩
abbrev main_v165 : Ref sig .tc := ⟨.hbm, 275, rfl⟩
abbrev main_v166 : Ref sig .tc := ⟨.hbm, 276, rfl⟩
abbrev main_cst_70 : Ref sig .tc := ⟨.hbm, 277, rfl⟩
abbrev main_v167 : Ref sig .tc := ⟨.hbm, 278, rfl⟩
abbrev main_v168 : Ref sig .tc := ⟨.hbm, 279, rfl⟩
abbrev main_v169 : Ref sig .tc := ⟨.hbm, 280, rfl⟩
abbrev main_v170 : Ref sig .tc := ⟨.hbm, 281, rfl⟩
abbrev main_v171 : Ref sig .tc := ⟨.hbm, 282, rfl⟩
abbrev main_v172 : Ref sig .tc := ⟨.hbm, 283, rfl⟩
abbrev main_cst_71 : Ref sig .tc := ⟨.hbm, 284, rfl⟩
abbrev main_v173 : Ref sig .tc := ⟨.hbm, 285, rfl⟩
abbrev main_v174 : Ref sig .tc := ⟨.hbm, 286, rfl⟩

abbrev nD : Nat := 1
abbrev τ : Topo := Topo.v7x

variable {F : FTy → Type} [FloatOps F]
-- ==== Proof.Decode.lean ====
/-
  One packed byte, read as two four-bit floats: the table of the sixteen values, and that the byte rearranged into an
  eight-bit float and multiplied by sixty-four is that value, over the extended reals.
-/
module

public import Idealize.ShloMosaic.PureOps.Vector
public import Idealize.ShloMosaic.Lib.BitcastPair
public import Idealize.ShloMosaic.Lib.BitcastFour
public import Idealize.ShloMosaic.Lib.ValueIdx
public import Idealize.ShloMosaic.PureOps.Ideal
public import Idealize.ShloMosaic.Lib.Tactic
public import Mathlib.Tactic.IntervalCases
public import Mathlib.Tactic.FinCases
public import Mathlib.Tactic.NormNum

@[expose] public section

noncomputable section

open Idealize.ShloMosaic Idealize.ShloMosaic.ValueIdx

namespace Cert.Decode

/-- The eight-bit float's word of the low nibble of a byte: its three magnitude bits below the exponent's top, its sign on top. -/
def fieldLo (b : BitVec 8) : BitVec 8 := ((b <<< 2) &&& 0x1C#8) ||| ((b <<< 4) &&& 0x80#8)
/-- And of the high nibble. -/
def fieldHi (b : BitVec 8) : BitVec 8 := ((b >>> 2) &&& 0x1C#8) ||| (b &&& 0x80#8)

/-- The nibble of a byte: the low one for `false`, the high one for `true`. -/
def nibble (hi : Bool) (b : BitVec 8) : BitVec 8 := if hi then b >>> 4 else b &&& 0x0F#8

def field (hi : Bool) (b : BitVec 8) : BitVec 8 := if hi then fieldHi b else fieldLo b

/-- The magnitude of a nibble. -/
def mag (n : BitVec 8) : ℝ :=
  if n.getLsbD 2 then (if n.getLsbD 1 then (if n.getLsbD 0 then 6 else 4) else (if n.getLsbD 0 then 3 else 2))
  else (if n.getLsbD 1 then (if n.getLsbD 0 then 3/2 else 1) else (if n.getLsbD 0 then 1/2 else 0))

/-- The value of a nibble. -/
def val (n : BitVec 8) : EReal := ((if n.getLsbD 3 then - mag n else mag n : ℝ) : EReal)

theorem field_eq : ∀ (hi : Bool) (b : BitVec 8), field hi b = fieldLo (nibble hi b) ∧ (nibble hi b).toNat < 16 := by decide

theorem lo_val (n : Fin 16) : Ideal.e4m3fn (fieldLo (BitVec.ofNat 8 n.val)) * Ideal.ieee 8 7 0x4280#16 = val (BitVec.ofNat 8 n.val) := by
  fin_cases n <;> simp [Ideal.e4m3fn, Ideal.ieee, fieldLo, val, mag, -EReal.coe_mul, ← EReal.coe_mul] <;> norm_num

/-- A byte's nibble, read as an eight-bit float and multiplied by sixty-four. -/
theorem field_val (hi : Bool) (b : BitVec 8) :
    Ideal.ofBits .fp8e4m3 (field hi b) * Ideal.ofBits .bf16 0x4280#16 = val (nibble hi b) := by
  obtain ⟨h, h'⟩ := field_eq hi b
  have := lo_val ⟨(nibble hi b).toNat, h'⟩
  simp only [BitVec.ofNat_toNat, BitVec.setWidth_eq] at this
  rw [h, ← this]
  rfl

/-! ## Four bytes at a time -/

/-- Thirty-two-bit words read as bytes: bit `k` of byte row `4a + r` is bit `8r + k` of word row `a`. -/
theorem bitcast_32_8_getLsbD {R r n : Nat} (x : (⟨2, ![r, n]⟩ : Shape).Idx → BitVec 32)
    (h : (⟨2, ![r, n]⟩ : Shape).Bitcasts 32 ⟨2, ![R, n]⟩ 8) (p : Fin R) (l : Fin n) (a : Fin r) (ha : p.val / 4 = a.val) (k : Nat) (hk : k < 8) :
    (bitcast ⟨2, ![R, n]⟩ 8 x h (ix2 p l)).getLsbD k = (x (ix2 a l)).getLsbD (8 * (p.val % 4) + k) := by
  rw [bitcast_getLsbD x h _ k hk (by decide)]
  have hr : (⟨2, ![R, n]⟩ : Shape).row (ix2 p l) = p.val := rfl
  congr 1
  · congr 1
    funext c
    match c with
    | ⟨0, _⟩ => exact Fin.ext ((h.srcIdx_row _ _ _ ⟨0, Nat.zero_lt_two⟩ rfl).trans (by rw [hr]; show _ = a.val; omega))
    | ⟨1, _⟩ => exact Fin.ext (h.srcIdx_other _ _ _ ⟨1, Nat.one_lt_two⟩ (by show ¬ 1 + 2 = 2; omega))
  · rw [hr]; omega

section
variable (x : Vec Ideal ⟨2, ![32, 128]⟩ .i8) (h : (⟨2, ![32, 128]⟩ : Shape).Bitcasts 8 ⟨2, ![8, 128]⟩ 32)
  (h' : (⟨2, ![8, 128]⟩ : Shape).Bitcasts 32 ⟨2, ![32, 128]⟩ 8) (p : Fin 32) (l : Fin 128)

theorem word_bit (q : Nat) (hq : q < 32) (a : Fin 8) (ha : a.val = p.val / 4) (hp : q / 8 = p.val % 4) :
    (bitcast ⟨2, ![8, 128]⟩ 32 (x : _ → BitVec 8) h (ix2 a l)).getLsbD q = (x (ix2 p l) : BitVec 8).getLsbD (q % 8) :=
  bitcast_8_32_getLsbD_ix2 (x : _ → BitVec 8) h a l q hq p (by omega)

/-- The word rearranged for the low nibbles, read as bytes, is each byte rearranged. -/
theorem lo_bytes : bitcast ⟨2, ![32, 128]⟩ 8 (ori (andi (shli (bitcast ⟨2, ![8, 128]⟩ 32 (x : _ → BitVec 8) h) (broadcast ⟨2, ![8, 128]⟩ 2#32)) (broadcast ⟨2, ![8, 128]⟩ 471604252#32))
      (andi (shli (bitcast ⟨2, ![8, 128]⟩ 32 (x : _ → BitVec 8) h) (broadcast ⟨2, ![8, 128]⟩ 4#32)) (broadcast ⟨2, ![8, 128]⟩ 2155905152#32))) h' (ix2 p l)
    = fieldLo (x (ix2 p l) : BitVec 8) := by
  apply BitVec.eq_of_getLsbD_eq
  intro k hk
  have hp := p.isLt
  rw [bitcast_32_8_getLsbD _ h' p l ⟨p.val / 4, by omega⟩ rfl k hk]
  have hw : ∀ r, r = p.val % 4 → ∀ q < 32, q / 8 = r → (bitcast ⟨2, ![8, 128]⟩ 32 (x : _ → BitVec 8) h (ix2 ⟨p.val / 4, by omega⟩ l)).getLsbD q = (x (ix2 p l) : BitVec 8).getLsbD (q % 8) := fun r hr q hq hq' => word_bit x h p l q hq ⟨p.val / 4, by omega⟩ rfl (hq'.trans hr)
  simp only [ori, andi, shli, broadcast, IntOp.ori, IntOp.andi, IntOp.shli]
  generalize bitcast ⟨2, ![8, 128]⟩ 32 (x : _ → BitVec 8) h (ix2 ⟨p.val / 4, by omega⟩ l) = W at hw ⊢
  generalize (x (ix2 p l) : BitVec 8) = b at hw ⊢
  obtain ⟨r, hr⟩ : ∃ r, r = p.val % 4 := ⟨_, rfl⟩
  rw [← hr]
  have hr4 : r < 4 := by omega
  have hW : ∀ q < 32, q / 8 = r → W.getLsbD q = b.getLsbD (q % 8) := hw r hr
  clear hw hr
  unfold fieldLo
  interval_cases r <;> interval_cases k <;>
    simp [BitVec.getLsbD_or, BitVec.getLsbD_and, BitVec.getLsbD_shiftLeft, -BitVec.getLsbD_eq_getElem] <;> first | done | exact hW _ (by decide) (by decide)

/-- For the high nibbles likewise. -/
theorem hi_bytes : bitcast ⟨2, ![32, 128]⟩ 8 (ori (andi (shrui (bitcast ⟨2, ![8, 128]⟩ 32 (x : _ → BitVec 8) h) (broadcast ⟨2, ![8, 128]⟩ 2#32)) (broadcast ⟨2, ![8, 128]⟩ 471604252#32))
      (andi (bitcast ⟨2, ![8, 128]⟩ 32 (x : _ → BitVec 8) h) (broadcast ⟨2, ![8, 128]⟩ 2155905152#32))) h' (ix2 p l)
    = fieldHi (x (ix2 p l) : BitVec 8) := by
  apply BitVec.eq_of_getLsbD_eq
  intro k hk
  have hp := p.isLt
  rw [bitcast_32_8_getLsbD _ h' p l ⟨p.val / 4, by omega⟩ rfl k hk]
  have hw : ∀ r, r = p.val % 4 → ∀ q < 32, q / 8 = r → (bitcast ⟨2, ![8, 128]⟩ 32 (x : _ → BitVec 8) h (ix2 ⟨p.val / 4, by omega⟩ l)).getLsbD q = (x (ix2 p l) : BitVec 8).getLsbD (q % 8) := fun r hr q hq hq' => word_bit x h p l q hq ⟨p.val / 4, by omega⟩ rfl (hq'.trans hr)
  simp only [ori, andi, shrui, broadcast, IntOp.ori, IntOp.andi, IntOp.shrui]
  generalize bitcast ⟨2, ![8, 128]⟩ 32 (x : _ → BitVec 8) h (ix2 ⟨p.val / 4, by omega⟩ l) = W at hw ⊢
  generalize (x (ix2 p l) : BitVec 8) = b at hw ⊢
  obtain ⟨r, hr⟩ : ∃ r, r = p.val % 4 := ⟨_, rfl⟩
  rw [← hr]
  have hr4 : r < 4 := by omega
  have hW : ∀ q < 32, q / 8 = r → W.getLsbD q = b.getLsbD (q % 8) := hw r hr
  clear hw hr
  unfold fieldHi
  interval_cases r <;> interval_cases k <;>
    simp [BitVec.getLsbD_or, BitVec.getLsbD_and, BitVec.getLsbD_ushiftRight, -BitVec.getLsbD_eq_getElem] <;> first | done | exact hW _ (by decide) (by decide)
end

end Cert.Decode

end
-- ==== Proof.Block.lean ====
/-
  A block of two hundred and fifty-six rows decoded from its packed bytes and its eight rows of scales, entry by entry.
-/
module

public import proofs.«01_k».proof.Proof.Decode
public import Idealize.ShloMosaic.Lib.Pipeline.Value
public import Idealize.ShloMosaic.Lib.Pipeline.ReadBack
public import Idealize.ShloMosaic.Lib.Pipeline.ValueKit.Tiles

@[expose] public section

noncomputable section

open Idealize.ShloMosaic Idealize.ShloMosaic.ValueIdx

namespace Cert.Decode

/-- The scale a word stands for: its low bits moved up to a float's exponent. -/
def scaleOf (s : BitVec 32) : EReal := Ideal.ofBits .f32 (s <<< 23)

theorem scale_fields (n : Fin 256) : ((BitVec.ofNat 32 n.val) <<< 23).extractLsb' 31 1 = 0#1 ∧ (((BitVec.ofNat 32 n.val) <<< 23).extractLsb' 23 8).toNat = n.val
    ∧ (((BitVec.ofNat 32 n.val) <<< 23).extractLsb' 0 23).toNat = 0 := by
  revert n; decide +kernel

/-- A scale word from 1 to 254 stands for the power of two that far above `2 ^ -127`. -/
theorem scaleOf_eq (s : BitVec 32) (h1 : 1 ≤ s.toNat) (h2 : s.toNat ≤ 254) : scaleOf s = (((2 : ℝ) ^ ((s.toNat : ℤ) - 127) : ℝ) : EReal) := by
  have e := scale_fields ⟨s.toNat, by omega⟩
  rw [BitVec.ofNat_toNat, BitVec.setWidth_eq] at e
  have e1 := e.1
  have e2 := e.2.1
  have e3 := e.2.2
  clear e
  show Ideal.ieee 8 23 (s <<< 23) = _
  unfold Ideal.ieee
  simp only [Nat.reduceAdd, e1, e2, e3]
  rw [if_neg (by omega), if_neg (by omega)]
  refine congrArg Real.toEReal ?_
  have h : ((0#1 == 1#1) = true) = False := by simp
  simp only [h, if_false, one_mul, Nat.add_zero]
  rw [show ((2 ^ 23 : ℕ) : ℝ) = (2 : ℝ) ^ (23 : ℤ) by norm_num, ← zpow_add₀ (by norm_num)]
  exact congrArg _ (by omega)

/-- The dequantised matrix of packed bytes and scales. Rows come in blocks of 256: the first 128 rows of a block are the
    low nibbles of 128 rows of bytes, the next 128 their high nibbles; sixteen rows of bytes share a row of scales. -/
def deq {H S N : ℕ} (x : (⟨2, ![H, N]⟩ : Shape).Idx → BitVec 8) (s : (⟨2, ![S, N]⟩ : Shape).Idx → BitVec 32)
    (hS : H = 16 * S) (r : ℕ) (hr : 128 * (r / 256) + r % 128 < H) (j : Fin N) : EReal :=
  val (nibble (decide (128 ≤ r % 256)) (x (ix2 ⟨128 * (r / 256) + r % 128, hr⟩ j)))
    * scaleOf (s (ix2 ⟨(128 * (r / 256) + r % 128) / 16, by omega⟩ j))

abbrev Row := (⟨2, ![1, 128]⟩ : Shape)
abbrev Bytes := (⟨2, ![32, 128]⟩ : Shape)
abbrev Words := (⟨2, ![8, 128]⟩ : Shape)
abbrev Tile := (⟨2, ![16, 128]⟩ : Shape)
abbrev Blk := (⟨2, ![256, 128]⟩ : Shape)

section
variable (hb : Bytes.Bitcasts 8 Words 32) (hb' : Words.Bitcasts 32 Bytes 8) (hx : FTy.bits .fp8e4m3 < FTy.bits .bf16) (ht : FTy.bits .bf16 < FTy.bits .f32)

/-- A row of scales as the body computes it. -/
def scaleRow (s : Vec Ideal Row .i32) : FVec Ideal Row .bf16 :=
  truncf .bf16 (bitcastToFloat .f32 (shli s (broadcast Row 23#32))) ht

/-- The low nibbles of thirty-two rows of bytes as the body computes them, -/
def loPart (cd : Vec Ideal Bytes .i8) : FVec Ideal Bytes .bf16 :=
  mulf (extf .bf16 (bitcastToFloat .fp8e4m3 (bitcast Bytes 8 (ori (andi (shli (bitcast Words 32 cd hb) (broadcast Words 2#32)) (broadcast Words 471604252#32))
      (andi (shli (bitcast Words 32 cd hb) (broadcast Words 4#32)) (broadcast Words 2155905152#32))) hb')) hx)
    (broadcast Bytes (Scalar.ofBits .bf16 0x4280#16))

/-- and the high ones. -/
def hiPart (cd : Vec Ideal Bytes .i8) : FVec Ideal Bytes .bf16 :=
  mulf (extf .bf16 (bitcastToFloat .fp8e4m3 (bitcast Bytes 8 (ori (andi (shrui (bitcast Words 32 cd hb) (broadcast Words 2#32)) (broadcast Words 471604252#32))
      (andi (bitcast Words 32 cd hb) (broadcast Words 2155905152#32))) hb')) hx)
    (broadcast Bytes (Scalar.ofBits .bf16 0x4280#16))

theorem scaleRow_apply (s : Vec Ideal Row .i32) (i : Row.Idx) : scaleRow ht s i = scaleOf (s i) := rfl

theorem loPart_apply (cd : Vec Ideal Bytes .i8) (p : Fin 32) (l : Fin 128) : loPart hb hb' hx cd (ix2 p l) = val (nibble false (cd (ix2 p l))) := by
  rw [← field_val false]
  show Ideal.ofBits .fp8e4m3 (bitcast Bytes 8 _ hb' (ix2 p l)) * _ = Ideal.ofBits .fp8e4m3 (fieldLo _) * _
  rw [lo_bytes cd hb hb' p l]
  rfl

theorem hiPart_apply (cd : Vec Ideal Bytes .i8) (p : Fin 32) (l : Fin 128) : hiPart hb hb' hx cd (ix2 p l) = val (nibble true (cd (ix2 p l))) := by
  rw [← field_val true]
  show Ideal.ofBits .fp8e4m3 (bitcast Bytes 8 _ hb' (ix2 p l)) * _ = Ideal.ofBits .fp8e4m3 (fieldHi _) * _
  rw [hi_bytes cd hb hb' p l]
  rfl

/-- Sixteen rows of a part, scaled. -/
def tile0 (h0 : Bytes.Slices ![0, 0] Tile) (hr : Row.Broadcasts Tile) (v : FVec Ideal Bytes .bf16) (s : FVec Ideal Row .bf16) : FVec Ideal Tile .bf16 :=
  mulf (extractStridedSlice Tile ![0, 0] v h0) (broadcastTo Tile s hr)
def tile1 (h1 : Bytes.Slices ![16, 0] Tile) (hr : Row.Broadcasts Tile) (v : FVec Ideal Bytes .bf16) (s : FVec Ideal Row .bf16) : FVec Ideal Tile .bf16 :=
  mulf (extractStridedSlice Tile ![16, 0] v h1) (broadcastTo Tile s hr)

variable (h0 : Bytes.Slices ![0, 0] Tile) (h1 : Bytes.Slices ![16, 0] Tile) (hr : Row.Broadcasts Tile)

theorem tile0_apply (v : FVec Ideal Bytes .bf16) (s : FVec Ideal Row .bf16) (t : Fin 16) (l : Fin 128) :
    tile0 h0 hr v s (ix2 t l) = v (ix2 ⟨t.val, by omega⟩ l) * s (ix2 0 l) := by
  refine congrArg₂ (· * ·) (congrArg v ?_) (congrArg s ?_) <;>
  · funext a; apply Fin.ext
    fin_cases a <;> first | rfl | exact Nat.zero_add _

theorem tile1_apply (v : FVec Ideal Bytes .bf16) (s : FVec Ideal Row .bf16) (t : Fin 16) (l : Fin 128) :
    tile1 h1 hr v s (ix2 t l) = v (ix2 ⟨16 + t.val, by omega⟩ l) * s (ix2 0 l) := by
  refine congrArg₂ (· * ·) (congrArg v ?_) (congrArg s ?_) <;>
  · funext a; apply Fin.ext
    fin_cases a <;> first | rfl | exact Nat.zero_add _

variable (hc : Shape.Concatenates [Tile, Tile, Tile, Tile, Tile, Tile, Tile, Tile, Tile, Tile, Tile, Tile, Tile, Tile, Tile, Tile] Blk 0)
  (hs : Blk.ShapeCasts Blk)

/-- The block as the body computes it: eight tiles of low nibbles, then eight of high ones. -/
def blk (s0 s1 s2 s3 s4 s5 s6 s7 : Vec Ideal Row .i32) (c0 c1 c2 c3 : Vec Ideal Bytes .i8) : FVec Ideal Blk .bf16 :=
  shapeCast Blk (concatenate Blk 0 [⟨Tile, tile0 h0 hr (loPart hb hb' hx c0) (scaleRow ht s0)⟩, ⟨Tile, tile1 h1 hr (loPart hb hb' hx c0) (scaleRow ht s1)⟩,
    ⟨Tile, tile0 h0 hr (loPart hb hb' hx c1) (scaleRow ht s2)⟩, ⟨Tile, tile1 h1 hr (loPart hb hb' hx c1) (scaleRow ht s3)⟩,
    ⟨Tile, tile0 h0 hr (loPart hb hb' hx c2) (scaleRow ht s4)⟩, ⟨Tile, tile1 h1 hr (loPart hb hb' hx c2) (scaleRow ht s5)⟩,
    ⟨Tile, tile0 h0 hr (loPart hb hb' hx c3) (scaleRow ht s6)⟩, ⟨Tile, tile1 h1 hr (loPart hb hb' hx c3) (scaleRow ht s7)⟩,
    ⟨Tile, tile0 h0 hr (hiPart hb hb' hx c0) (scaleRow ht s0)⟩, ⟨Tile, tile1 h1 hr (hiPart hb hb' hx c0) (scaleRow ht s1)⟩,
    ⟨Tile, tile0 h0 hr (hiPart hb hb' hx c1) (scaleRow ht s2)⟩, ⟨Tile, tile1 h1 hr (hiPart hb hb' hx c1) (scaleRow ht s3)⟩,
    ⟨Tile, tile0 h0 hr (hiPart hb hb' hx c2) (scaleRow ht s4)⟩, ⟨Tile, tile1 h1 hr (hiPart hb hb' hx c2) (scaleRow ht s5)⟩,
    ⟨Tile, tile0 h0 hr (hiPart hb hb' hx c3) (scaleRow ht s6)⟩, ⟨Tile, tile1 h1 hr (hiPart hb hb' hx c3) (scaleRow ht s7)⟩] hc) hs

/-- One of its tiles, by number. -/
def tileAt (S : Fin 8 → Vec Ideal Row .i32) (C : Fin 4 → Vec Ideal Bytes .i8) (n : Fin 16) : FVec Ideal Tile .bf16 :=
  if n.val % 2 = 0 then
    tile0 h0 hr (if n.val < 8 then loPart hb hb' hx (C ⟨n.val % 8 / 2, by omega⟩) else hiPart hb hb' hx (C ⟨n.val % 8 / 2, by omega⟩)) (scaleRow ht (S ⟨n.val % 8, by omega⟩))
  else
    tile1 h1 hr (if n.val < 8 then loPart hb hb' hx (C ⟨n.val % 8 / 2, by omega⟩) else hiPart hb hb' hx (C ⟨n.val % 8 / 2, by omega⟩)) (scaleRow ht (S ⟨n.val % 8, by omega⟩))

theorem tileAt_apply (S : Fin 8 → Vec Ideal Row .i32) (C : Fin 4 → Vec Ideal Bytes .i8) (n t : Fin 16) (l : Fin 128) :
    tileAt hb hb' hx ht h0 h1 hr S C n (ix2 t l)
      = val (nibble (decide (8 ≤ n.val)) (C ⟨n.val % 8 / 2, by omega⟩ (ix2 ⟨16 * (n.val % 2) + t.val, by omega⟩ l))) * scaleOf (S ⟨n.val % 8, by omega⟩ (ix2 0 l)) := by
  have hp (p : Fin 32) : (if n.val < 8 then loPart hb hb' hx (C ⟨n.val % 8 / 2, by omega⟩) else hiPart hb hb' hx (C ⟨n.val % 8 / 2, by omega⟩)) (ix2 p l)
      = val (nibble (decide (8 ≤ n.val)) (C ⟨n.val % 8 / 2, by omega⟩ (ix2 p l))) := by
    split
    · rw [loPart_apply, decide_eq_false (by omega)]
    · rw [hiPart_apply, decide_eq_true (by omega)]
  unfold tileAt
  split
  · rename_i h
    rw [tile0_apply, hp, scaleRow_apply]
    congr 6
    omega
  · rename_i h
    have : n.val % 2 = 1 := by omega
    rw [tile1_apply, hp, scaleRow_apply]
    congr 6
    omega

theorem blk_apply (s0 s1 s2 s3 s4 s5 s6 s7 : Vec Ideal Row .i32) (c0 c1 c2 c3 : Vec Ideal Bytes .i8) (r : Fin 256) (l : Fin 128) :
    blk hb hb' hx ht h0 h1 hr hc hs s0 s1 s2 s3 s4 s5 s6 s7 c0 c1 c2 c3 (ix2 r l)
      = val (nibble (decide (128 ≤ r.val)) (![c0, c1, c2, c3] ⟨r.val % 128 / 32, by omega⟩ (ix2 ⟨r.val % 32, by omega⟩ l)))
        * scaleOf (![s0, s1, s2, s3, s4, s5, s6, s7] ⟨r.val % 128 / 16, by omega⟩ (ix2 0 l)) := by
  unfold blk
  rw [shapeCast_self]
  have e := concatenate_ofFn_apply (t := Blk) (s₁ := Tile) 0 (tileAt hb hb' hx ht h0 h1 hr ![s0, s1, s2, s3, s4, s5, s6, s7] ![c0, c1, c2, c3])
    hc rfl 16 rfl (ix2 r l) ⟨r.val / 16, by omega⟩ rfl (ix2 ⟨r.val % 16, by omega⟩ l) rfl (by
      intro b hb
      match b with
      | ⟨0, _⟩ => exact absurd rfl hb
      | ⟨1, _⟩ => rfl)
  refine Eq.trans ?_ (e.trans ((tileAt_apply hb hb' hx ht h0 h1 hr _ _ _ _ _).trans ?_))
  · rfl
  · refine congrArg₂ (· * ·) (congrArg val (congrArg₂ nibble ?_ (congr (congrArg _ (Fin.ext ?_)) ?_))) (congrArg scaleOf (congrFun (congrArg _ (Fin.ext ?_)) _))
    · exact decide_eq_decide.mpr (by show 8 ≤ r.val / 16 ↔ _; omega)
    · show r.val / 16 % 8 / 2 = r.val % 128 / 32; omega
    · congr 1
      apply Fin.ext; show 16 * (r.val / 16 % 2) + r.val % 16 = r.val % 32; omega
    · show r.val / 16 % 8 = r.val % 128 / 16; omega

/-- The block at rows `R …` and columns `L …`, computed from the bytes and the scales that belong to it, is that block of the dequantised matrix. -/
theorem blk_deq {H S N : ℕ} (x : (⟨2, ![H, N]⟩ : Shape).Idx → BitVec 8) (s : (⟨2, ![S, N]⟩ : Shape).Idx → BitVec 32) (hS : H = 16 * S) (R L : ℕ)
    (hR : R % 256 = 0) (s0 s1 s2 s3 s4 s5 s6 s7 : Vec Ideal Row .i32) (c0 c1 c2 c3 : Vec Ideal Bytes .i8)
    (hs' : ∀ (g : Fin 8) (l : Fin 128) (a : Fin S) (b : Fin N), a.val = R / 32 + g.val → b.val = L + l.val →
      ![s0, s1, s2, s3, s4, s5, s6, s7] g (ix2 0 l) = s (ix2 a b))
    (hc' : ∀ (q : Fin 4) (p : Fin 32) (l : Fin 128) (a : Fin H) (b : Fin N), a.val = R / 2 + 32 * q.val + p.val → b.val = L + l.val →
      ![c0, c1, c2, c3] q (ix2 p l) = x (ix2 a b))
    (i : Blk.Idx) (r : ℕ) (hr' : 128 * (r / 256) + r % 128 < H) (j : Fin N) (hri : r = R + (i 0).val) (hj : j.val = L + (i 1).val) :
    blk hb hb' hx ht h0 h1 hr hc hs s0 s1 s2 s3 s4 s5 s6 s7 c0 c1 c2 c3 i = deq x s hS r hr' j := by
  obtain ⟨p, l, rfl⟩ : ∃ (p : Fin 256) (l : Fin 128), i = ix2 p l := ⟨i 0, i 1, by funext ax; fin_cases ax <;> rfl⟩
  have hri : r = R + p.val := hri
  have hj : j.val = L + l.val := hj
  rw [blk_apply]
  unfold deq
  refine congrArg₂ (· * ·) (congrArg val (congrArg₂ nibble ?_ ?_)) (congrArg scaleOf ?_)
  · exact decide_eq_decide.mpr (by omega)
  · exact hc' _ _ _ _ _ (by show 128 * (r / 256) + r % 128 = R / 2 + 32 * (p.val % 128 / 32) + p.val % 32; omega) hj
  · exact hs' _ _ _ _ (by show (128 * (r / 256) + r % 128) / 16 = R / 32 + p.val % 128 / 16; omega) hj
end

end Cert.Decode

end
-- ==== Proof.Products.lean ====
/-
  What the two products of the kernel's body leave, over the extended reals, and the result arrays.
-/
module

public import proofs.«01_k».proof.Defs
public import proofs.«01_k».proof.Proof.Block
public import proofs.«01_k».proof.Proof.Gen.KernelIdeal.Value
public import proofs.«01_k».proof.Proof.Gen.ReferenceIdeal.Run
public import Idealize.ShloMosaic.Lib.MatmulPlain
public import Idealize.ShloMosaic.Lib.StackMember
public import Idealize.ShloMosaic.Lib.Pipeline.Value
public import Idealize.ShloMosaic.Lib.Pipeline.ReadBack
public import Idealize.ShloMosaic.Lib.Pipeline.ValueKit.Tiles
public import Idealize.ShloMosaic.Lib.Tactic

@[expose] public section

noncomputable section

open Idealize.ShloMosaic Idealize.ShloMosaic.TcCoe Idealize.SL.Sem
open Idealize.ShloMosaic.Pipeline (Dat)
open Idealize.ShloMosaic.ValueIdx

namespace Cert.KernelIdeal.Products

open Cert.KernelIdeal Cert.KernelIdeal.Gen

variable (m : (ℓ : Loc nD τ sig) → Buf (Elt Ideal) ℓ)

theorem hz : (![0, 0] : Fin 2 → Nat) = fun _ => 0 := funext fun a => by fin_cases a <;> rfl

/-- A product of two matrices times one thirty-second, entry by entry. -/
def prod {M K N : ℕ} (a : (⟨2, ![M, K]⟩ : Shape).Idx → EReal) (b : (⟨2, ![K, N]⟩ : Shape).Idx → EReal)
    (y : (⟨2, ![M, N]⟩ : Shape).Idx) : EReal :=
  (∑ k : Fin K, a (ix2 (y 0) k) * b (ix2 k (y 1))) * Ideal.ofBits .f32 0x3D000000#32

/-- A block of rows of the left factor, multiplied, is that block of rows of the product. -/
theorem rows_apply {M K N R : ℕ} (o : ℕ) (a : (⟨2, ![M, K]⟩ : Shape).Idx → EReal) (b : (⟨2, ![K, N]⟩ : Shape).Idx → EReal)
    (inb : ∀ ax, (![o, 0] : Fin 2 → ℕ) ax + (![R, K] : Fin 2 → ℕ) ax ≤ (⟨2, ![M, K]⟩ : Shape).size ax)
    (acc : FVec Ideal ⟨2, ![R, N]⟩ .f32) (hacc : acc = constant _ .f32 0x00000000#32)
    (x : (⟨2, ![R, N]⟩ : Shape).Idx) (y : (⟨2, ![M, N]⟩ : Shape).Idx) (h0 : (y 0 : ℕ) = o + x 0) (h1 : (y 1 : ℕ) = x 1) :
    FloatOps.matmul (F := Ideal) (φ₁ := .bf16) (φ₂ := .bf16) (DotDims.plain R K N) none
      (View.ld (Val := Elt Ideal) (e' := .bf16) a (Rect.unit (s := ⟨2, ![M, K]⟩) ![o, 0] ![R, K] inb)) b acc x
      * Ideal.ofBits .f32 0x3D000000#32 = prod a b y := by
  subst hacc
  unfold prod
  congr 1
  obtain ⟨r, l, rfl⟩ : ∃ (r : Fin R) (l : Fin N), x = ix2 r l := ⟨x 0, x 1, by funext ax; fin_cases ax <;> rfl⟩
  refine (Ideal.matmul_plain_apply none _ b _ r l).trans ?_
  show Ideal.ofBits .f32 0x00000000#32 + _ = _
  rw [Ideal.ofBits_zero_f32, zero_add]
  refine Finset.sum_congr rfl fun k _ => ?_
  have e : (y 1 : Fin N) = l := Fin.ext h1
  refine congrArg₂ (· * ·) ?_ (congrArg (fun z : Fin N => b (ix2 k z)) e.symm)
  exact View.ld_unit_apply_of (Val := Elt Ideal) (S := ⟨2, ![M, K]⟩) (e := .bf16) a ![o, 0] ![R, K] inb (ix2 r k) (ix2 (n0 := M) (n1 := K) (y 0) k) (by
    intro ax
    match ax with
    | ⟨0, _⟩ => exact h0
    | ⟨1, _⟩ => show (k : ℕ) = 0 + (k : ℕ); omega)

/-- The dequantised matrix as a function of an index. -/
def deqm {H S T N : ℕ} (hS : H = 16 * S) (hT : T = 2 * H) (hH : H % 128 = 0) (x : (⟨2, ![H, N]⟩ : Shape).Idx → BitVec 8) (s : (⟨2, ![S, N]⟩ : Shape).Idx → BitVec 32)
    (y : (⟨2, ![T, N]⟩ : Shape).Idx) : EReal :=
  Decode.deq x s hS (y 0).val (by have h : (y 0).val < T := (y 0).isLt; omega) (y 1)

/-- A load of a box of a memref holding `x`. -/
abbrev load {S : Shape} {e : EltTy} (M : Memref sig .tc .vmem S e) (hM : M.IsWhole) (x : Vec Ideal S e) (off size : Fin S.rank → ℕ)
    (inb : ∀ a, off a + size a ≤ S.size a) := M.view.readAt (Elt Ideal) (Rect.unit (s := S) off size inb).toLoadRect (hM.unread x)

section
variable (c : Dev nD) (i : grid0.Coords) (arg1 : Memref sig .tc .vmem S1280x512 .i8) (harg1 : arg1.IsWhole) (arg2 : Memref sig .tc .vmem S80x512 .i32) (harg2 : arg2.IsWhole) (arg3 : Memref sig .tc .vmem S768x512 .i8) (harg3 : arg3.IsWhole) (arg4 : Memref sig .tc .vmem S48x512 .i32) (harg4 : arg4.IsWhole) (arg5 : Memref sig .tc .vmem S1536x2560 .bf16) (harg5 : arg5.IsWhole) (arg6 : Memref sig .tc .vmem S2560x1536 .bf16) (harg6 : arg6.IsWhole) (arg7 : Memref sig .tc .vmem S1536x512 .bf16) (harg7 : arg7.IsWhole) (arg8 : Memref sig .tc .vmem S2560x512 .f32) (harg8 : arg8.IsWhole) (arg9 : Memref sig .tc .vmem S2560x512 .bf16) (harg9 : arg9.IsWhole) (arg10 : Memref sig .tc .vmem S1536x512 .bf16) (harg10 : arg10.IsWhole)
    (x0 : Vec Ideal S1280x512 .i8) (x1 : Vec Ideal S80x512 .i32) (x2 : Vec Ideal S768x512 .i8) (x3 : Vec Ideal S48x512 .i32) (x4 : Vec Ideal S1536x2560 .bf16) (x5 : Vec Ideal S2560x1536 .bf16)

/-- A load of a memref that holds `x`, read at an index of the box. -/
theorem load_apply {S : Shape} {e : EltTy} (M : Memref sig .tc .vmem S e) (hM : M.IsWhole) (x : Vec Ideal S e) (off size : Fin S.rank → ℕ)
    (inb : ∀ a, off a + size a ≤ S.size a) (j : (Rect.unit (s := S) off size inb).shape.Idx) (k : S.Idx) (hk : ∀ a, (k a : ℕ) = off a + j a) :
    load M hM x off size inb j = x k := by
  unfold load
  rw [View.readAt_eq_ld, hM.read_unread]
  exact View.ld_unit_apply_of (Val := Elt Ideal) x off size inb j k hk

theorem load_apply2 {A B n k o L : ℕ} {e : EltTy} (M : Memref sig .tc .vmem ⟨2, ![A, B]⟩ e) (hM : M.IsWhole) (x : Vec Ideal ⟨2, ![A, B]⟩ e)
    (inb : ∀ a, (![o, L] : Fin 2 → ℕ) a + (![n, k] : Fin 2 → ℕ) a ≤ (⟨2, ![A, B]⟩ : Shape).size a) (p : Fin n) (l : Fin k) (a : Fin A) (b : Fin B)
    (ha : a.val = o + p.val) (hb : b.val = L + l.val) : load M hM x ![o, L] ![n, k] inb (ix2 p l) = x (ix2 a b) :=
  load_apply M hM x _ _ _ _ _ fun ax => match ax with
    | ⟨0, _⟩ => ha
    | ⟨1, _⟩ => hb

/-- One stored block: if the scales are read at rows `R / 32 …` and the bytes at rows `R / 2 …`, in the columns the block is stored in, the block is
    rows `R …` of the dequantised matrix. -/
theorem block_piece {H S T : ℕ} (hS : H = 16 * S) (hT : T = 2 * H) (arg1 : Memref sig .tc .vmem ⟨2, ![H, 512]⟩ .i8) (harg1 : arg1.IsWhole) (arg2 : Memref sig .tc .vmem ⟨2, ![S, 512]⟩ .i32) (harg2 : arg2.IsWhole)
    (x0 : Vec Ideal ⟨2, ![H, 512]⟩ .i8) (x1 : Vec Ideal ⟨2, ![S, 512]⟩ .i32) (hH : H % 128 = 0)
    {hb hb' hx ht h0 h1 hr hc hs} {R L o0 o1 o2 o3 o4 o5 o6 o7 p0 p1 p2 p3 : ℕ}
    {inb : ∀ a, (![R, L] : Fin 2 → ℕ) a + (![256, 128] : Fin 2 → ℕ) a ≤ (⟨2, ![T, 512]⟩ : Shape).size a}
    {i0 : ∀ a, (![o0, L] : Fin 2 → ℕ) a + (![1, 128] : Fin 2 → ℕ) a ≤ (⟨2, ![S, 512]⟩ : Shape).size a} {i1 : ∀ a, (![o1, L] : Fin 2 → ℕ) a + (![1, 128] : Fin 2 → ℕ) a ≤ (⟨2, ![S, 512]⟩ : Shape).size a} {i2 : ∀ a, (![o2, L] : Fin 2 → ℕ) a + (![1, 128] : Fin 2 → ℕ) a ≤ (⟨2, ![S, 512]⟩ : Shape).size a} {i3 : ∀ a, (![o3, L] : Fin 2 → ℕ) a + (![1, 128] : Fin 2 → ℕ) a ≤ (⟨2, ![S, 512]⟩ : Shape).size a} {i4 : ∀ a, (![o4, L] : Fin 2 → ℕ) a + (![1, 128] : Fin 2 → ℕ) a ≤ (⟨2, ![S, 512]⟩ : Shape).size a} {i5 : ∀ a, (![o5, L] : Fin 2 → ℕ) a + (![1, 128] : Fin 2 → ℕ) a ≤ (⟨2, ![S, 512]⟩ : Shape).size a} {i6 : ∀ a, (![o6, L] : Fin 2 → ℕ) a + (![1, 128] : Fin 2 → ℕ) a ≤ (⟨2, ![S, 512]⟩ : Shape).size a} {i7 : ∀ a, (![o7, L] : Fin 2 → ℕ) a + (![1, 128] : Fin 2 → ℕ) a ≤ (⟨2, ![S, 512]⟩ : Shape).size a}
    {j0 : ∀ a, (![p0, L] : Fin 2 → ℕ) a + (![32, 128] : Fin 2 → ℕ) a ≤ (⟨2, ![H, 512]⟩ : Shape).size a} {j1 : ∀ a, (![p1, L] : Fin 2 → ℕ) a + (![32, 128] : Fin 2 → ℕ) a ≤ (⟨2, ![H, 512]⟩ : Shape).size a} {j2 : ∀ a, (![p2, L] : Fin 2 → ℕ) a + (![32, 128] : Fin 2 → ℕ) a ≤ (⟨2, ![H, 512]⟩ : Shape).size a} {j3 : ∀ a, (![p3, L] : Fin 2 → ℕ) a + (![32, 128] : Fin 2 → ℕ) a ≤ (⟨2, ![H, 512]⟩ : Shape).size a}
    (hR : R % 256 = 0) (ho : [o0, o1, o2, o3, o4, o5, o6, o7] = (List.range 8).map (R / 32 + ·)) (hp : [p0, p1, p2, p3] = (List.range 4).map (R / 2 + 32 * ·))
    (x : Decode.Blk.Idx) :
    Decode.blk hb hb' hx ht h0 h1 hr hc hs (load arg2 harg2 x1 ![o0, L] ![1, 128] i0) (load arg2 harg2 x1 ![o1, L] ![1, 128] i1) (load arg2 harg2 x1 ![o2, L] ![1, 128] i2) (load arg2 harg2 x1 ![o3, L] ![1, 128] i3) (load arg2 harg2 x1 ![o4, L] ![1, 128] i4) (load arg2 harg2 x1 ![o5, L] ![1, 128] i5) (load arg2 harg2 x1 ![o6, L] ![1, 128] i6) (load arg2 harg2 x1 ![o7, L] ![1, 128] i7) (load arg1 harg1 x0 ![p0, L] ![32, 128] j0) (load arg1 harg1 x0 ![p1, L] ![32, 128] j1) (load arg1 harg1 x0 ![p2, L] ![32, 128] j2) (load arg1 harg1 x0 ![p3, L] ![32, 128] j3) x
      = deqm hS hT hH x0 x1 ((Rect.unit (s := ⟨2, ![T, 512]⟩) ![R, L] ![256, 128] inb).emb x) := by
  simp only [List.range_succ, List.range_zero, List.nil_append, List.map_append, List.map_cons, List.map_nil, List.cons_append, List.cons.injEq, and_true] at ho hp
  obtain ⟨ho0, ho1, ho2, ho3, ho4, ho5, ho6, ho7⟩ := ho
  obtain ⟨hp0, hp1, hp2, hp3⟩ := hp
  have hx0 : (x 0).val < 256 := (x 0).isLt
  refine Decode.blk_deq hb hb' hx ht h0 h1 hr hc hs x0 x1 hS R L hR _ _ _ _ _ _ _ _ _ _ _ _ ?_ ?_ x _ _ _ ?_ ?_
  · intro g l a b ha hb
    fin_cases g <;> exact load_apply2 arg2 harg2 x1 _ 0 l a b (by simp only [] at ha; simp; omega) hb
  · intro g p l a b ha hb
    fin_cases g <;> exact load_apply2 arg1 harg1 x0 _ p l a b (by simp only [] at ha; omega) hb
  · show R + 1 * (x 0).val = _; omega
  · show L + 1 * (x 1).val = _; omega

/-- A stored block of rows of a product, as the body computes it from a load of the left factor and the whole right factor, -/
theorem rows_piece {M K N R o : ℕ} (A : Memref sig .tc .vmem ⟨2, ![M, K]⟩ .bf16) (hA : A.IsWhole) (a : Vec Ideal ⟨2, ![M, K]⟩ .bf16)
    {b : Vec Ideal ⟨2, ![K, N]⟩ .bf16} {B : (⟨2, ![K, N]⟩ : Shape).Idx → EReal} (hb : b = B)
    {inb : ∀ ax, (![o, 0] : Fin 2 → ℕ) ax + (![R, K] : Fin 2 → ℕ) ax ≤ (⟨2, ![M, K]⟩ : Shape).size ax}
    {inb' : ∀ ax, (![o, 0] : Fin 2 → ℕ) ax + (![R, N] : Fin 2 → ℕ) ax ≤ (⟨2, ![M, N]⟩ : Shape).size ax} (x : (⟨2, ![R, N]⟩ : Shape).Idx) :
    (mulf (matmul (φ₁ := .bf16) (φ₂ := .bf16) (DotDims.plain R K N) none (load A hA a ![o, 0] ![R, K] inb) b (constant ⟨2, ![R, N]⟩ .f32 0x00000000#32))
      (broadcast ⟨2, ![R, N]⟩ (Scalar.ofBits .f32 0x3D000000#32)) : FVec Ideal ⟨2, ![R, N]⟩ .f32) x
      = prod a B ((Rect.unit (s := ⟨2, ![M, N]⟩) ![o, 0] ![R, N] inb').emb x) := by
  subst hb
  unfold load
  rw [View.readAt_eq_ld, hA.read_unread]
  refine rows_apply o a b inb _ rfl x _ ?_ ?_ <;> simp [Rect.emb_apply]

/-- and the same rounded to sixteen bits, which over the extended reals changes nothing. -/
theorem rows_piece' {M K N R o : ℕ} (A : Memref sig .tc .vmem ⟨2, ![M, K]⟩ .bf16) (hA : A.IsWhole) (a : Vec Ideal ⟨2, ![M, K]⟩ .bf16)
    {b : Vec Ideal ⟨2, ![K, N]⟩ .bf16} {B : (⟨2, ![K, N]⟩ : Shape).Idx → EReal} (hb : b = B)
    {inb : ∀ ax, (![o, 0] : Fin 2 → ℕ) ax + (![R, K] : Fin 2 → ℕ) ax ≤ (⟨2, ![M, K]⟩ : Shape).size ax}
    {inb' : ∀ ax, (![o, 0] : Fin 2 → ℕ) ax + (![R, N] : Fin 2 → ℕ) ax ≤ (⟨2, ![M, N]⟩ : Shape).size ax} {ht : FTy.bits .bf16 < FTy.bits .f32} (x : (⟨2, ![R, N]⟩ : Shape).Idx) :
    truncf .bf16 (mulf (matmul (φ₁ := .bf16) (φ₂ := .bf16) (DotDims.plain R K N) none (load A hA a ![o, 0] ![R, K] inb) b (constant ⟨2, ![R, N]⟩ .f32 0x00000000#32))
      (broadcast ⟨2, ![R, N]⟩ (Scalar.ofBits .f32 0x3D000000#32)) : FVec Ideal ⟨2, ![R, N]⟩ .f32) ht x
      = prod a B ((Rect.unit (s := ⟨2, ![M, N]⟩) ![o, 0] ![R, N] inb').emb x) :=
  rows_piece A hA a hb x

/-- A load of the whole of a buffer holding `W`. -/
theorem whole_load {S T : ℕ} {v : View sig .tc .vmem ⟨2, ![S, T]⟩ .bf16} {L : List (View.Piece (Elt Ideal) ⟨2, ![S, T]⟩ .bf16)} {W : (⟨2, ![S, T]⟩ : Shape).Idx → EReal}
    (hW : View.canon L = W) (inb : ∀ ax, (![0, 0] : Fin 2 → ℕ) ax + (⟨2, ![S, T]⟩ : Shape).size ax ≤ (⟨2, ![S, T]⟩ : Shape).size ax) :
    v.readCov L (Rect.unit (s := ⟨2, ![S, T]⟩) ![0, 0] (⟨2, ![S, T]⟩ : Shape).size inb).toLoadRect = W := by
  rw [View.readCov_eq_canon', hW]
  exact View.ld_unit_zero (S := ⟨2, ![S, T]⟩) (Val := Elt Ideal) (e := .bf16) hz inb W

section
attribute [local irreducible] View.readAt bitcast concatenate broadcastTo extractStridedSlice shapeCast ori andi shli shrui mulf extf truncf bitcastToFloat broadcast View.readCov constant

set_option maxHeartbeats 4000000 in
theorem wq_pieces : View.PiecesOf (deqm (H := 1280) (S := 80) (T := 2560) rfl rfl rfl x0 x1) (kernelRun0_A (F := Ideal) c i arg1 harg1 arg2 harg2 arg3 harg3 arg4 harg4 arg5 harg5 arg6 harg6 arg7 harg7 arg8 harg8 arg9 harg9 arg10 harg10 x0 x1 x2 x3 x4 x5).2.2.1 := by
  unfold kernelRun0_A
  dsimp only
  unfold kernelRun0_A.sl.HS0_40
  repeat' first | exact trivial | refine And.intro (fun x => ?_) ?_
  all_goals
    refine block_piece (H := 1280) (S := 80) (T := 2560) rfl rfl arg1 harg1 arg2 harg2 x0 x1 rfl (inb := ?_) ?_ ?_ ?_ x <;> first | rfl | (intro a; fin_cases a <;> decide)

set_option maxHeartbeats 4000000 in
theorem xq_pieces : View.PiecesOf (deqm (H := 768) (S := 48) (T := 1536) rfl rfl rfl x2 x3) (kernelRun0_A (F := Ideal) c i arg1 harg1 arg2 harg2 arg3 harg3 arg4 harg4 arg5 harg5 arg6 harg6 arg7 harg7 arg8 harg8 arg9 harg9 arg10 harg10 x0 x1 x2 x3 x4 x5).2.2.2.1 := by
  unfold kernelRun0_A
  dsimp only
  unfold kernelRun0_A.sl.HS1_24
  repeat' first | exact trivial | refine And.intro (fun x => ?_) ?_
  all_goals
    refine block_piece (H := 768) (S := 48) (T := 1536) rfl rfl arg3 harg3 arg4 harg4 x2 x3 rfl (inb := ?_) ?_ ?_ ?_ x <;> first | rfl | (intro a; fin_cases a <;> decide)

theorem wq_eq : View.canon (kernelRun0_A (F := Ideal) c i arg1 harg1 arg2 harg2 arg3 harg3 arg4 harg4 arg5 harg5 arg6 harg6 arg7 harg7 arg8 harg8 arg9 harg9 arg10 harg10 x0 x1 x2 x3 x4 x5).2.2.1 = deqm (H := 1280) (S := 80) (T := 2560) rfl rfl rfl x0 x1 :=
  funext fun y => View.canon_apply_of_pieces _ _ (View.PiecesOf.mem (wq_pieces c i arg1 harg1 arg2 harg2 arg3 harg3 arg4 harg4 arg5 harg5 arg6 harg6 arg7 harg7 arg8 harg8 arg9 harg9 arg10 harg10 x0 x1 x2 x3 x4 x5)) y
    (View.cover_of_tiledL (kernelRun0_A (F := Ideal) c i arg1 harg1 arg2 harg2 arg3 harg3 arg4 harg4 arg5 harg5 arg6 harg6 arg7 harg7 arg8 harg8 arg9 harg9 arg10 harg10 x0 x1 x2 x3 x4 x5).2.2.1 S256x128.size (by sl_kernel_rfl) y)

theorem xq_eq : View.canon (kernelRun0_A (F := Ideal) c i arg1 harg1 arg2 harg2 arg3 harg3 arg4 harg4 arg5 harg5 arg6 harg6 arg7 harg7 arg8 harg8 arg9 harg9 arg10 harg10 x0 x1 x2 x3 x4 x5).2.2.2.1 = deqm (H := 768) (S := 48) (T := 1536) rfl rfl rfl x2 x3 :=
  funext fun y => View.canon_apply_of_pieces _ _ (View.PiecesOf.mem (xq_pieces c i arg1 harg1 arg2 harg2 arg3 harg3 arg4 harg4 arg5 harg5 arg6 harg6 arg7 harg7 arg8 harg8 arg9 harg9 arg10 harg10 x0 x1 x2 x3 x4 x5)) y
    (View.cover_of_tiledL (kernelRun0_A (F := Ideal) c i arg1 harg1 arg2 harg2 arg3 harg3 arg4 harg4 arg5 harg5 arg6 harg6 arg7 harg7 arg8 harg8 arg9 harg9 arg10 harg10 x0 x1 x2 x3 x4 x5).2.2.2.1 S256x128.size (by sl_kernel_rfl) y)

theorem out_6 (y : S1536x512.Idx) :
    out0_A_6 (F := Ideal) c i arg1 harg1 arg2 harg2 arg3 harg3 arg4 harg4 arg5 harg5 arg6 harg6 arg7 harg7 arg8 harg8 arg9 harg9 arg10 harg10 x0 x1 x2 x3 x4 x5 y = prod x4 (deqm (T := 2560) (H := 1280) (S := 80) rfl rfl rfl x0 x1) y := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 x0 x1 x2 x3 x4 x5)]
  refine View.canon_apply_of_pieces (prod x4 (deqm (T := 2560) (H := 1280) (S := 80) rfl rfl rfl x0 x1)) _ ?_ y (cover0_A_6 c i arg1 harg1 arg2 harg2 arg3 harg3 arg4 harg4 arg5 harg5 arg6 harg6 arg7 harg7 arg8 harg8 arg9 harg9 arg10 harg10 x0 x1 x2 x3 x4 x5 y)
  have hw := wq_eq c i arg1 harg1 arg2 harg2 arg3 harg3 arg4 harg4 arg5 harg5 arg6 harg6 arg7 harg7 arg8 harg8 arg9 harg9 arg10 harg10 x0 x1 x2 x3 x4 x5
  unfold kernelRun0_A at hw ⊢
  dsimp only at hw ⊢
  refine View.PiecesOf.mem ?_
  repeat' first | exact trivial | refine And.intro (fun x => ?_) ?_
  all_goals refine rows_piece' (M := 1536) (K := 2560) (N := 512) (R := 256) arg5 harg5 x4 (inb' := ?_) ?_ x
  all_goals first | exact whole_load hw _ | (intro a; fin_cases a <;> decide)

theorem out_7 (y : S2560x512.Idx) :
    out0_A_7 (F := Ideal) c i arg1 harg1 arg2 harg2 arg3 harg3 arg4 harg4 arg5 harg5 arg6 harg6 arg7 harg7 arg8 harg8 arg9 harg9 arg10 harg10 x0 x1 x2 x3 x4 x5 y = prod x5 (deqm (T := 1536) (H := 768) (S := 48) rfl rfl rfl x2 x3) y := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 x0 x1 x2 x3 x4 x5)]
  refine View.canon_apply_of_pieces (prod x5 (deqm (T := 1536) (H := 768) (S := 48) rfl rfl rfl x2 x3)) _ ?_ y (cover0_A_7 c i arg1 harg1 arg2 harg2 arg3 harg3 arg4 harg4 arg5 harg5 arg6 harg6 arg7 harg7 arg8 harg8 arg9 harg9 arg10 harg10 x0 x1 x2 x3 x4 x5 y)
  have hw := xq_eq c i arg1 harg1 arg2 harg2 arg3 harg3 arg4 harg4 arg5 harg5 arg6 harg6 arg7 harg7 arg8 harg8 arg9 harg9 arg10 harg10 x0 x1 x2 x3 x4 x5
  unfold kernelRun0_A at hw ⊢
  dsimp only at hw ⊢
  refine View.PiecesOf.mem ?_
  repeat' first | exact trivial | refine And.intro (fun x => ?_) ?_
  all_goals refine rows_piece (M := 2560) (K := 1536) (N := 512) (R := 256) arg6 harg6 x5 (inb' := ?_) ?_ x
  all_goals first | exact whole_load hw _ | (intro a; fin_cases a <;> decide)
end
end

/-! ## From blocks to arrays -/

/-- Column `t` of the grid: the block indices of the windows that move along the columns, and of the two that stay. -/
theorem idx0 (t : Fin cfg0.N) : win0_0.index t 0 = 0 ∧ win0_0.index t 1 = t.val :=
  (by decide +kernel : ∀ t : Fin grid0.N, win0_0.index t 0 = 0 ∧ win0_0.index t 1 = t.val) t
theorem idx1 (t : Fin cfg0.N) : win0_1.index t 0 = 0 ∧ win0_1.index t 1 = t.val :=
  (by decide +kernel : ∀ t : Fin grid0.N, win0_1.index t 0 = 0 ∧ win0_1.index t 1 = t.val) t
theorem idx2 (t : Fin cfg0.N) : win0_2.index t 0 = 0 ∧ win0_2.index t 1 = t.val :=
  (by decide +kernel : ∀ t : Fin grid0.N, win0_2.index t 0 = 0 ∧ win0_2.index t 1 = t.val) t
theorem idx3 (t : Fin cfg0.N) : win0_3.index t 0 = 0 ∧ win0_3.index t 1 = t.val :=
  (by decide +kernel : ∀ t : Fin grid0.N, win0_3.index t 0 = 0 ∧ win0_3.index t 1 = t.val) t
theorem idx4 (t : Fin cfg0.N) : win0_4.index t 0 = 0 ∧ win0_4.index t 1 = 0 :=
  (by decide +kernel : ∀ t : Fin grid0.N, win0_4.index t 0 = 0 ∧ win0_4.index t 1 = 0) t
theorem idx5 (t : Fin cfg0.N) : win0_5.index t 0 = 0 ∧ win0_5.index t 1 = 0 :=
  (by decide +kernel : ∀ t : Fin grid0.N, win0_5.index t 0 = 0 ∧ win0_5.index t 1 = 0) t
theorem idx6 (t : Fin cfg0.N) : win0_6.index t 0 = 0 ∧ win0_6.index t 1 = t.val :=
  (by decide +kernel : ∀ t : Fin grid0.N, win0_6.index t 0 = 0 ∧ win0_6.index t 1 = t.val) t
theorem idx7 (t : Fin cfg0.N) : win0_7.index t 0 = 0 ∧ win0_7.index t 1 = t.val :=
  (by decide +kernel : ∀ t : Fin grid0.N, win0_7.index t 0 = 0 ∧ win0_7.index t 1 = t.val) t

theorem col_lt (t : Fin cfg0.N) (l : Fin 512) : 512 * t.val + l.val < 7168 := by
  have := t.isLt; have h : cfg0.N = 14 := N_0; omega

/-- The codes' and scales' blocks at point `t` are columns `512 t …` of their arrays; the last two windows hold their arrays. -/
theorem iblk0_apply (c : Dev nD) (t : Fin cfg0.N) (r : Fin 1280) (l : Fin 512) :
    (iblk m c 0 t : Vec Ideal S1280x512 .i8) (ix2 r l) = m ((c : Thread nD τ).loc main_arg0) (ix2 r ⟨512 * t.val + l.val, col_lt t l⟩) := by
  unfold iblk
  rw [View.read_apply]
  show V m c main_arg0 _ = m (c.tc.loc main_arg0) _
  unfold V
  congr 1
  funext a
  apply Fin.ext
  match a with
  | ⟨0, _⟩ => show win0_0.index t 0 * 1280 + 1 * r.val = r.val; rw [(idx0 t).1]; omega
  | ⟨1, _⟩ => show win0_0.index t 1 * 512 + 1 * l.val = 512 * t.val + l.val; rw [(idx0 t).2]; omega
theorem iblk1_apply (c : Dev nD) (t : Fin cfg0.N) (r : Fin 80) (l : Fin 512) :
    (iblk m c 1 t : Vec Ideal S80x512 .i32) (ix2 r l) = m ((c : Thread nD τ).loc main_arg1) (ix2 r ⟨512 * t.val + l.val, col_lt t l⟩) := by
  unfold iblk
  rw [View.read_apply]
  show V m c main_arg1 _ = m (c.tc.loc main_arg1) _
  unfold V
  congr 1
  funext a
  apply Fin.ext
  match a with
  | ⟨0, _⟩ => show win0_1.index t 0 * 80 + 1 * r.val = r.val; rw [(idx1 t).1]; omega
  | ⟨1, _⟩ => show win0_1.index t 1 * 512 + 1 * l.val = 512 * t.val + l.val; rw [(idx1 t).2]; omega
theorem iblk2_apply (c : Dev nD) (t : Fin cfg0.N) (r : Fin 768) (l : Fin 512) :
    (iblk m c 2 t : Vec Ideal S768x512 .i8) (ix2 r l) = m ((c : Thread nD τ).loc main_arg2) (ix2 r ⟨512 * t.val + l.val, col_lt t l⟩) := by
  unfold iblk
  rw [View.read_apply]
  show V m c main_arg2 _ = m (c.tc.loc main_arg2) _
  unfold V
  congr 1
  funext a
  apply Fin.ext
  match a with
  | ⟨0, _⟩ => show win0_2.index t 0 * 768 + 1 * r.val = r.val; rw [(idx2 t).1]; omega
  | ⟨1, _⟩ => show win0_2.index t 1 * 512 + 1 * l.val = 512 * t.val + l.val; rw [(idx2 t).2]; omega
theorem iblk3_apply (c : Dev nD) (t : Fin cfg0.N) (r : Fin 48) (l : Fin 512) :
    (iblk m c 3 t : Vec Ideal S48x512 .i32) (ix2 r l) = m ((c : Thread nD τ).loc main_arg3) (ix2 r ⟨512 * t.val + l.val, col_lt t l⟩) := by
  unfold iblk
  rw [View.read_apply]
  show V m c main_arg3 _ = m (c.tc.loc main_arg3) _
  unfold V
  congr 1
  funext a
  apply Fin.ext
  match a with
  | ⟨0, _⟩ => show win0_3.index t 0 * 48 + 1 * r.val = r.val; rw [(idx3 t).1]; omega
  | ⟨1, _⟩ => show win0_3.index t 1 * 512 + 1 * l.val = 512 * t.val + l.val; rw [(idx3 t).2]; omega
theorem iblk4_apply (c : Dev nD) (t : Fin cfg0.N) (r : Fin 1536) (l : Fin 2560) :
    (iblk m c 4 t : Vec Ideal S1536x2560 .bf16) (ix2 r l) = m ((c : Thread nD τ).loc main_arg4) (ix2 r l) := by
  unfold iblk
  rw [View.read_apply]
  show V m c main_arg4 _ = m (c.tc.loc main_arg4) _
  unfold V
  congr 1
  funext a
  apply Fin.ext
  match a with
  | ⟨0, _⟩ => show win0_4.index t 0 * 1536 + 1 * r.val = r.val; rw [(idx4 t).1]; omega
  | ⟨1, _⟩ => show win0_4.index t 1 * 2560 + 1 * l.val = l.val; rw [(idx4 t).2]; omega
theorem iblk5_apply (c : Dev nD) (t : Fin cfg0.N) (r : Fin 2560) (l : Fin 1536) :
    (iblk m c 5 t : Vec Ideal S2560x1536 .bf16) (ix2 r l) = m ((c : Thread nD τ).loc main_arg5) (ix2 r l) := by
  unfold iblk
  rw [View.read_apply]
  show V m c main_arg5 _ = m (c.tc.loc main_arg5) _
  unfold V
  congr 1
  funext a
  apply Fin.ext
  match a with
  | ⟨0, _⟩ => show win0_5.index t 0 * 2560 + 1 * r.val = r.val; rw [(idx5 t).1]; omega
  | ⟨1, _⟩ => show win0_5.index t 1 * 1536 + 1 * l.val = l.val; rw [(idx5 t).2]; omega

/-- The first result array: the product of the fifth argument with the matrix decoded from the first two, -/
abbrev dx (c : Dev nD) : Buf (Elt Ideal) ((c : Thread nD τ).loc main_v0_0) :=
  prod (M := 1536) (K := 2560) (N := 7168) (m ((c : Thread nD τ).loc main_arg4))
    (deqm (H := 1280) (S := 80) (T := 2560) rfl rfl rfl (m ((c : Thread nD τ).loc main_arg0)) (m ((c : Thread nD τ).loc main_arg1)))
/-- the second: of the sixth with the matrix decoded from the next two. -/
abbrev dw (c : Dev nD) : Buf (Elt Ideal) ((c : Thread nD τ).loc main_v0_1) :=
  prod (M := 2560) (K := 1536) (N := 7168) (m ((c : Thread nD τ).loc main_arg5))
    (deqm (H := 768) (S := 48) (T := 1536) rfl rfl rfl (m ((c : Thread nD τ).loc main_arg2)) (m ((c : Thread nD τ).loc main_arg3)))

/-- Columns of a decoded matrix are decoded from the same columns of its codes and scales. -/
theorem deqm_cols {H S T N N' : ℕ} (hS : H = 16 * S) (hT : T = 2 * H) (hH : H % 128 = 0) (x : (⟨2, ![H, N]⟩ : Shape).Idx → BitVec 8) (s : (⟨2, ![S, N]⟩ : Shape).Idx → BitVec 32)
    (x' : (⟨2, ![H, N']⟩ : Shape).Idx → BitVec 8) (s' : (⟨2, ![S, N']⟩ : Shape).Idx → BitVec 32) (l : Fin N) (l' : Fin N')
    (hx : ∀ r, x (ix2 r l) = x' (ix2 r l')) (hs : ∀ r, s (ix2 r l) = s' (ix2 r l')) (k : Fin T) :
    deqm hS hT hH x s (ix2 k l) = deqm hS hT hH x' s' (ix2 k l') := by
  show Decode.val _ * _ = Decode.val _ * _
  exact congrArg₂ (fun a b => Decode.val (Decode.nibble _ a) * Decode.scaleOf b) (hx _) (hs _)

theorem flushed_dx (c : Dev nD) (t : Fin cfg0.N) (hf : (cfg0.win 6).flush t = true) :
    (dats m 0 c).flushed 6 t = ((cfg0.win 6).blk t).view.read (Elt Ideal) (dx m c) := by
  rw [Value.flushed6_A]
  funext y
  show out0_A_6 (F := Ideal) c _ _ _ _ _ _ _ _ _ _ _ _ _ _ _ _ _ _ _ _ _ _ _ _ _ _ _ (y : S1536x512.Idx) = _
  rw [out_6, View.read_apply]
  show _ = dx m c _
  unfold dx prod
  congr 1
  refine Finset.sum_congr rfl fun k _ => ?_
  refine congrArg₂ (· * ·) ((iblk4_apply m c t _ _).trans (congrArg _ ?_))
    ((deqm_cols _ _ _ _ _ _ _ (y 1) ⟨512 * t.val + (y 1).val, col_lt t (y 1)⟩ (fun r => iblk0_apply m c t r (y 1)) (fun r => iblk1_apply m c t r (y 1)) k).trans (congrArg _ ?_))
  · funext a; apply Fin.ext
    match a with
    | ⟨0, _⟩ => show (y 0).val = win0_6.index t 0 * 1536 + 1 * (y 0).val; rw [(idx6 t).1]; omega
    | ⟨1, _⟩ => rfl
  · funext a; apply Fin.ext
    match a with
    | ⟨0, _⟩ => rfl
    | ⟨1, _⟩ => show 512 * t.val + (y 1).val = win0_6.index t 1 * 512 + 1 * (y 1).val; rw [(idx6 t).2]; omega

theorem flushed_dw (c : Dev nD) (t : Fin cfg0.N) (hf : (cfg0.win 7).flush t = true) :
    (dats m 0 c).flushed 7 t = ((cfg0.win 7).blk t).view.read (Elt Ideal) (dw m c) := by
  rw [Value.flushed7_A]
  funext y
  show out0_A_7 (F := Ideal) c _ _ _ _ _ _ _ _ _ _ _ _ _ _ _ _ _ _ _ _ _ _ _ _ _ _ _ (y : S2560x512.Idx) = _
  rw [out_7, View.read_apply]
  show _ = dw m c _
  unfold dw prod
  congr 1
  refine Finset.sum_congr rfl fun k _ => ?_
  refine congrArg₂ (· * ·) ((iblk5_apply m c t _ _).trans (congrArg _ ?_))
    ((deqm_cols _ _ _ _ _ _ _ (y 1) ⟨512 * t.val + (y 1).val, col_lt t (y 1)⟩ (fun r => iblk2_apply m c t r (y 1)) (fun r => iblk3_apply m c t r (y 1)) k).trans (congrArg _ ?_))
  · funext a; apply Fin.ext
    match a with
    | ⟨0, _⟩ => show (y 0).val = win0_7.index t 0 * 2560 + 1 * (y 0).val; rw [(idx7 t).1]; omega
    | ⟨1, _⟩ => rfl
  · funext a; apply Fin.ext
    match a with
    | ⟨0, _⟩ => rfl
    | ⟨1, _⟩ => show 512 * t.val + (y 1).val = win0_7.index t 1 * 512 + 1 * (y 1).val; rw [(idx7 t).2]; omega

/-- Every entry of the first result array lies in one point's block, -/
theorem cover_dx (i : S1536x7168.Idx) :
    ∃ t : Fin cfg0.N, (cfg0.win 6).flush t = true ∧ i ∈ ((cfg0.win 6).blk t).view.set := by
  have h0 : (i 0 : Nat) < 1536 := (i 0).isLt
  have h1 : (i 1 : Nat) < 7168 := (i 1).isLt
  have hN : cfg0.N = 14 := N_0
  have ht : (i 1 : Nat) / 512 < cfg0.N := by omega
  refine ⟨⟨(i 1 : Nat) / 512, ht⟩, flush0_6 _, ?_⟩
  show i ∈ ((View.whole main_v0_0).slice (win0_6.rect ⟨(i 1 : Nat) / 512, ht⟩)).set
  rw [View.set_slice_whole, Rect.mem_set_unit]
  intro a
  match a with
  | ⟨0, _⟩ => show win0_6.index ⟨(i 1 : Nat) / 512, ht⟩ 0 * 1536 ≤ (i 0 : Nat) ∧ (i 0 : Nat) < win0_6.index ⟨(i 1 : Nat) / 512, ht⟩ 0 * 1536 + 1536
              rw [(idx6 _).1]; omega
  | ⟨1, _⟩ => show win0_6.index ⟨(i 1 : Nat) / 512, ht⟩ 1 * 512 ≤ (i 1 : Nat) ∧ (i 1 : Nat) < win0_6.index ⟨(i 1 : Nat) / 512, ht⟩ 1 * 512 + 512
              rw [(idx6 _).2]; dsimp only; omega

/-- and of the second. -/
theorem cover_dw (i : S2560x7168.Idx) :
    ∃ t : Fin cfg0.N, (cfg0.win 7).flush t = true ∧ i ∈ ((cfg0.win 7).blk t).view.set := by
  have h0 : (i 0 : Nat) < 2560 := (i 0).isLt
  have h1 : (i 1 : Nat) < 7168 := (i 1).isLt
  have hN : cfg0.N = 14 := N_0
  have ht : (i 1 : Nat) / 512 < cfg0.N := by omega
  refine ⟨⟨(i 1 : Nat) / 512, ht⟩, flush0_7 _, ?_⟩
  show i ∈ ((View.whole main_v0_1).slice (win0_7.rect ⟨(i 1 : Nat) / 512, ht⟩)).set
  rw [View.set_slice_whole, Rect.mem_set_unit]
  intro a
  match a with
  | ⟨0, _⟩ => show win0_7.index ⟨(i 1 : Nat) / 512, ht⟩ 0 * 2560 ≤ (i 0 : Nat) ∧ (i 0 : Nat) < win0_7.index ⟨(i 1 : Nat) / 512, ht⟩ 0 * 2560 + 2560
              rw [(idx7 _).1]; omega
  | ⟨1, _⟩ => show win0_7.index ⟨(i 1 : Nat) / 512, ht⟩ 1 * 512 ≤ (i 1 : Nat) ∧ (i 1 : Nat) < win0_7.index ⟨(i 1 : Nat) / 512, ht⟩ 1 * 512 + 512
              rw [(idx7 _).2]; dsimp only; omega

/-- So the first result array ends holding the first product, -/
theorem final_dx (c : Dev nD) : (dats m 0 c).arrAt 6 cfg0.N = dx m c :=
  (dats m 0 c).arrAt_eq_of_cover 6 (dx m c) (flushed_dx m c) cover_dx
/-- and the second the second. -/
theorem final_dw (c : Dev nD) : (dats m 0 c).arrAt 7 cfg0.N = dw m c :=
  (dats m 0 c).arrAt_eq_of_cover 7 (dw m c) (flushed_dw m c) cover_dw

end Cert.KernelIdeal.Products

end
-- ==== Proof.Reference.lean ====
/-
  The reference, over the extended reals: its table of nibbles, its scaled matrices, its halves of the left factors, and
  that the sum of its two half products is the product with the decoded matrix.
-/
module

public import proofs.«01_k».proof.Proof.Products
public import Idealize.ShloMosaic.Lib.IdealHost

@[expose] public section

noncomputable section

open Idealize.ShloMosaic Idealize.ShloMosaic.TcCoe Idealize.SL.Sem
open Idealize.ShloMosaic.ValueIdx

namespace Cert.ReferenceIdeal.Products

open Cert.ReferenceIdeal Cert.ReferenceIdeal.Gen Cert.KernelIdeal.Products

/-! ## The table of nibbles -/

/-- Whether a word has one of the bits of `k`. -/
def bit (w k : BitVec 32) : BitVec 1 := IntOp.cmpi .ne (w &&& k) 0#32

/-- The table's magnitude of a word's low three bits, -/
def tabMag (w : BitVec 32) : EReal :=
  Scalar.select (bit w 4#32)
    (Scalar.select (bit w 2#32) (Scalar.select (bit w 1#32) (Ideal.ofBits .f32 0x40C00000#32) (Ideal.ofBits .f32 0x40800000#32))
      (Scalar.select (bit w 1#32) (Ideal.ofBits .f32 0x40400000#32) (Ideal.ofBits .f32 0x40000000#32)))
    (Scalar.select (bit w 2#32) (Scalar.select (bit w 1#32) (Ideal.ofBits .f32 0x3FC00000#32) (Ideal.ofBits .f32 0x3F800000#32))
      (Scalar.select (bit w 1#32) (Ideal.ofBits .f32 0x3F000000#32) (Ideal.ofBits .f32 0x00000000#32)))
/-- and with the sign of the fourth. -/
def tab (w : BitVec 32) : EReal := Scalar.select (bit w 8#32) (-tabMag w) (tabMag w)

/-- A nibble as the reference takes it out of a byte. -/
def word (hi : Bool) (b : BitVec 8) : BitVec 32 := if hi then IntOp.shrsi .scalar (b.setWidth 32) 4#32 else b.setWidth 32 &&& 15#32

theorem bit_word : ∀ (hi : Bool) (b : BitVec 8),
    bit (word hi b) 8#32 = BitVec.ofBool ((Decode.nibble hi b).getLsbD 3) ∧ bit (word hi b) 4#32 = BitVec.ofBool ((Decode.nibble hi b).getLsbD 2)
    ∧ bit (word hi b) 2#32 = BitVec.ofBool ((Decode.nibble hi b).getLsbD 1) ∧ bit (word hi b) 1#32 = BitVec.ofBool ((Decode.nibble hi b).getLsbD 0) := by
  decide +kernel

theorem c6 : Ideal.ofBits .f32 0x40C00000#32 = ((6 : ℝ) : EReal) := by simp [Ideal.ofBits, Ideal.ieee, -EReal.coe_mul]; norm_num
theorem c4 : Ideal.ofBits .f32 0x40800000#32 = ((4 : ℝ) : EReal) := by simp [Ideal.ofBits, Ideal.ieee, -EReal.coe_mul]; norm_num
theorem c3 : Ideal.ofBits .f32 0x40400000#32 = ((3 : ℝ) : EReal) := by simp [Ideal.ofBits, Ideal.ieee, -EReal.coe_mul]; norm_num
theorem c2 : Ideal.ofBits .f32 0x40000000#32 = ((2 : ℝ) : EReal) := by simp [Ideal.ofBits, Ideal.ieee, -EReal.coe_mul]; norm_num
theorem c3h : Ideal.ofBits .f32 0x3FC00000#32 = ((3/2 : ℝ) : EReal) := by simp [Ideal.ofBits, Ideal.ieee, -EReal.coe_mul]; norm_num
theorem c1 : Ideal.ofBits .f32 0x3F800000#32 = ((1 : ℝ) : EReal) := by simp [Ideal.ofBits, Ideal.ieee, -EReal.coe_mul]; norm_num
theorem c1h : Ideal.ofBits .f32 0x3F000000#32 = ((1/2 : ℝ) : EReal) := by simp [Ideal.ofBits, Ideal.ieee, -EReal.coe_mul]; norm_num
theorem c0 : Ideal.ofBits .f32 0x00000000#32 = ((0 : ℝ) : EReal) := by simp [Ideal.ofBits, Ideal.ieee, -EReal.coe_mul]

theorem select_ofBool (b : Bool) (x y : EReal) : Scalar.select (BitVec.ofBool b) x y = if b then x else y := by
  cases b <;> rfl

/-- The table is the value of the nibble. -/
theorem tab_word (hi : Bool) (b : BitVec 8) : tab (word hi b) = Decode.val (Decode.nibble hi b) := by
  obtain ⟨h8, h4, h2, h1⟩ := bit_word hi b
  unfold tab tabMag
  rw [h8, h4, h2, h1, c6, c4, c3, c2, c3h, c1, c1h, c0]
  simp only [select_ofBool]
  unfold Decode.val Decode.mag
  generalize (Decode.nibble hi b).getLsbD 3 = b3
  generalize (Decode.nibble hi b).getLsbD 2 = b2
  generalize (Decode.nibble hi b).getLsbD 1 = b1
  generalize (Decode.nibble hi b).getLsbD 0 = b0
  cases b3 <;> cases b2 <;> cases b1 <;> cases b0 <;> rfl

/-! ## The factors, entry by entry -/

/-- A matrix of values scaled row group by row group: sixteen rows share a row of scales. -/
theorem scaled_apply {H S N : ℕ} (hS : H = 16 * S) (hN : N ≠ 1) (v : FVec Ideal ⟨2, ![H, N]⟩ .bf16) (s : FVec Ideal ⟨2, ![S, N]⟩ .bf16)
    (h1 : (⟨2, ![H, N]⟩ : Shape).ShapeCasts ⟨3, ![S, 16, N]⟩) (h2 : (⟨3, ![S, 1, N]⟩ : Shape).BroadcastsInDim ⟨3, ![S, 16, N]⟩ ![0, 1, 2])
    (h3 : (⟨2, ![S, N]⟩ : Shape).BroadcastsInDim ⟨3, ![S, 1, N]⟩ ![0, 2]) (h4 : (⟨3, ![S, 16, N]⟩ : Shape).ShapeCasts ⟨2, ![H, N]⟩)
    (k : Fin H) (d : Fin N) :
    shapeCast ⟨2, ![H, N]⟩ (mulf (shapeCast ⟨3, ![S, 16, N]⟩ v h1) (broadcastInDim ⟨3, ![S, 16, N]⟩ ![0, 1, 2] h2 (broadcastInDim ⟨3, ![S, 1, N]⟩ ![0, 2] h3 s))) h4 (ix2 k d)
      = (v (ix2 k d) : EReal) * s (ix2 ⟨k.val / 16, by omega⟩ d) := by
  have hk := k.isLt
  have e : (⟨k.val / 16, by omega⟩ : Fin S).val * 16 + k.val % 16 = k.val := by show k.val / 16 * 16 + k.val % 16 = k.val; omega
  rw [shapeCast_apply _ h4 (ix2 k d) (ix3 (⟨k.val / 16, by omega⟩ : Fin S) (⟨k.val % 16, by omega⟩ : Fin 16) d)
    (by rw [Shape.rowMajor_val_two, Shape.rowMajor_val_three]; show (k.val / 16 * 16 + k.val % 16) * N + d.val = k.val * N + d.val; rw [show k.val / 16 * 16 + k.val % 16 = k.val by omega])]
  refine congrArg₂ (· * ·) ?_ ?_
  · exact shapeCast_apply v h1 _ (ix2 k d)
      (by rw [Shape.rowMajor_val_two, Shape.rowMajor_val_three]; show k.val * N + d.val = (k.val / 16 * 16 + k.val % 16) * N + d.val; rw [show k.val / 16 * 16 + k.val % 16 = k.val by omega])
  · rw [broadcastInDim_apply _ h2 _ _ (ix3 (⟨k.val / 16, by omega⟩ : Fin S) (0 : Fin 1) d) ?_, broadcastInDim_apply _ h3 _ _ (ix2 (⟨k.val / 16, by omega⟩ : Fin S) d) ?_]
    · intro a
      match a with
      | ⟨0, _⟩ => show k.val / 16 = if S = 1 then 0 else k.val / 16; split <;> omega
      | ⟨1, _⟩ => show d.val = if N = 1 then 0 else d.val; rw [if_neg hN]
    · intro a
      match a with
      | ⟨0, _⟩ => show k.val / 16 = if S = 1 then 0 else k.val / 16; split <;> omega
      | ⟨1, _⟩ => show 0 = if 1 = 1 then 0 else _; rfl
      | ⟨2, _⟩ => show d.val = if N = 1 then 0 else d.val; rw [if_neg hN]

/-- A half of the columns: of every 256, the first 128 (`o = 0`) or the last (`o = 1`). -/
theorem half_apply {M B K T : ℕ} {α : Type} (hK : K = B * 128) (hT : T = B * 256) (o : ℕ) (ho : o < 2) (a : (⟨2, ![M, T]⟩ : Shape).Idx → α)
    (h1 : (⟨2, ![M, T]⟩ : Shape).ShapeCasts ⟨4, ![M, B, 2, 128]⟩) (h2 : (⟨4, ![M, B, 2, 128]⟩ : Shape).Slices ![0, 0, o, 0] ⟨4, ![M, B, 1, 128]⟩)
    (h3 : (⟨4, ![M, B, 1, 128]⟩ : Shape).ShapeCasts ⟨3, ![M, B, 128]⟩) (h4 : (⟨3, ![M, B, 128]⟩ : Shape).ShapeCasts ⟨2, ![M, K]⟩)
    (r : Fin M) (k : Fin K) :
    shapeCast ⟨2, ![M, K]⟩ (shapeCast ⟨3, ![M, B, 128]⟩ (extractStridedSlice ⟨4, ![M, B, 1, 128]⟩ ![0, 0, o, 0] (shapeCast ⟨4, ![M, B, 2, 128]⟩ a h1) h2) h3) h4 (ix2 r k)
      = a (ix2 r ⟨256 * (k.val / 128) + 128 * o + k.val % 128, by have := k.isLt; omega⟩) := by
  have hk := k.isLt
  have hq : k.val / 128 < B := by omega
  have hm : k.val / 128 * 128 + k.val % 128 = k.val := by omega
  rw [shapeCast_apply _ h4 (ix2 r k) (ix3 r (⟨k.val / 128, hq⟩ : Fin B) (⟨k.val % 128, by omega⟩ : Fin 128))
      (by rw [Shape.rowMajor_val_two, Shape.rowMajor_val_three]
          show (r.val * B + k.val / 128) * 128 + k.val % 128 = r.val * K + k.val
          have e : r.val * K = r.val * B * 128 := by rw [Nat.mul_assoc]; exact congrArg _ hK
          rw [e, Nat.add_mul, Nat.add_assoc, hm]),
    shapeCast_apply _ h3 _ (ix4 r (⟨k.val / 128, hq⟩ : Fin B) (0 : Fin 1) (⟨k.val % 128, by omega⟩ : Fin 128))
      (by rw [Shape.rowMajor_val_four, Shape.rowMajor_val_three]
          show ((r.val * B + k.val / 128) * 1 + 0) * 128 + k.val % 128 = (r.val * B + k.val / 128) * 128 + k.val % 128
          omega),
    extractStridedSlice_apply _ _ h2 _ (ix4 r (⟨k.val / 128, hq⟩ : Fin B) (⟨o, ho⟩ : Fin 2) (⟨k.val % 128, by omega⟩ : Fin 128)) ?_]
  · exact shapeCast_apply a h1 _ _
      (by rw [Shape.rowMajor_val_two, Shape.rowMajor_val_four]
          show r.val * T + (256 * (k.val / 128) + 128 * o + k.val % 128) = ((r.val * B + k.val / 128) * 2 + o) * 128 + k.val % 128
          rw [hT]; ring)
  · intro x
    match x with
    | ⟨0, _⟩ => show r.val = 0 + r.val; omega
    | ⟨1, _⟩ => show k.val / 128 = 0 + k.val / 128; omega
    | ⟨2, _⟩ => show o = o + 0; omega
    | ⟨3, _⟩ => show k.val % 128 = 0 + k.val % 128; omega

/-! ## The two half sums -/

/-- The rows of a decoded matrix, half by half: those of low nibbles, and those of high ones. -/
def halves {H T : ℕ} (hT : T = 2 * H) (hH : H % 128 = 0) : Fin H ⊕ Fin H ≃ Fin T where
  toFun := Sum.elim (fun k => ⟨256 * (k.val / 128) + 128 * 0 + k.val % 128, by have := k.isLt; omega⟩)
    (fun k => ⟨256 * (k.val / 128) + 128 * 1 + k.val % 128, by have := k.isLt; omega⟩)
  invFun k := if k.val % 256 < 128 then .inl ⟨128 * (k.val / 256) + k.val % 128, by have := k.isLt; omega⟩
    else .inr ⟨128 * (k.val / 256) + k.val % 128, by have := k.isLt; omega⟩
  left_inv k := by
    rcases k with k | k
    · refine (if_pos ?_).trans (congrArg Sum.inl (Fin.ext ?_))
      · show (256 * (k.val / 128) + 128 * 0 + k.val % 128) % 256 < 128; omega
      · show 128 * ((256 * (k.val / 128) + 128 * 0 + k.val % 128) / 256) + (256 * (k.val / 128) + 128 * 0 + k.val % 128) % 128 = k.val; omega
    · refine (if_neg ?_).trans (congrArg Sum.inr (Fin.ext ?_))
      · show ¬ (256 * (k.val / 128) + 128 * 1 + k.val % 128) % 256 < 128; omega
      · show 128 * ((256 * (k.val / 128) + 128 * 1 + k.val % 128) / 256) + (256 * (k.val / 128) + 128 * 1 + k.val % 128) % 128 = k.val; omega
  right_inv k := by
    dsimp only
    split
    · apply Fin.ext; simp only [Sum.elim_inl]; omega
    · apply Fin.ext; simp only [Sum.elim_inr]; omega

/-- A decoded row of a half. -/
theorem deqm_half {H S T N : ℕ} (hS : H = 16 * S) (hT : T = 2 * H) (hH : H % 128 = 0) (x : (⟨2, ![H, N]⟩ : Shape).Idx → BitVec 8) (s : (⟨2, ![S, N]⟩ : Shape).Idx → BitVec 32)
    (hi : Bool) (k : Fin H) (d : Fin N) (q : Fin T) (hq : q.val = 256 * (k.val / 128) + 128 * hi.toNat + k.val % 128) :
    deqm hS hT hH x s (ix2 q d) = Decode.val (Decode.nibble hi (x (ix2 k d))) * Decode.scaleOf (s (ix2 ⟨k.val / 16, by have := k.isLt; omega⟩ d)) := by
  have hb : hi.toNat < 2 := by cases hi <;> decide
  have e : 128 * (q.val / 256) + q.val % 128 = k.val := by omega
  have e' : decide (128 ≤ q.val % 256) = hi := by
    cases hi
    · have : q.val = 256 * (k.val / 128) + k.val % 128 := by simpa using hq
      rw [decide_eq_false_iff_not]; omega
    · have : q.val = 256 * (k.val / 128) + 128 + k.val % 128 := by simpa using hq
      rw [decide_eq_true_iff]; omega
  show Decode.val (Decode.nibble (decide (128 ≤ q.val % 256)) (x (ix2 ⟨128 * (q.val / 256) + q.val % 128, _⟩ d))) * Decode.scaleOf (s (ix2 ⟨(128 * (q.val / 256) + q.val % 128) / 16, _⟩ d)) = _
  rw [e']
  simp only [e]

/-- The sum of the two half products, times one thirty-second, is the product with the decoded matrix. -/
theorem sum_halves {M H S T N : ℕ} (hS : H = 16 * S) (hT : T = 2 * H) (hH : H % 128 = 0) (a : FVec Ideal ⟨2, ![M, T]⟩ .bf16)
    (x : (⟨2, ![H, N]⟩ : Shape).Idx → BitVec 8) (s : (⟨2, ![S, N]⟩ : Shape).Idx → BitVec 32)
    (al ah : FVec Ideal ⟨2, ![M, H]⟩ .bf16) (bl bh : FVec Ideal ⟨2, ![H, N]⟩ .bf16)
    (hal : ∀ r k, al (ix2 r k) = a (ix2 r (halves hT hH (.inl k)))) (hah : ∀ r k, ah (ix2 r k) = a (ix2 r (halves hT hH (.inr k))))
    (hbl : ∀ k d, (bl (ix2 k d) : EReal) = Decode.val (Decode.nibble false (x (ix2 k d))) * Decode.scaleOf (s (ix2 ⟨k.val / 16, by have := k.isLt; omega⟩ d)))
    (hbh : ∀ k d, (bh (ix2 k d) : EReal) = Decode.val (Decode.nibble true (x (ix2 k d))) * Decode.scaleOf (s (ix2 ⟨k.val / 16, by have := k.isLt; omega⟩ d)))
    (y : (⟨2, ![M, N]⟩ : Shape).Idx) :
    ((Host.dotGeneral (DotDims.plain M H N) none al bl y : EReal) + Host.dotGeneral (DotDims.plain M H N) none ah bh y) * Ideal.ofBits .f32 0x3D000000#32
      = prod a (deqm hS hT hH x s) y := by
  obtain ⟨r, d, rfl⟩ : ∃ (r : Fin M) (d : Fin N), y = ix2 r d := ⟨y 0, y 1, by funext ax; fin_cases ax <;> rfl⟩
  unfold prod
  congr 1
  rw [StackMember.dotGeneral_plain_apply, StackMember.dotGeneral_plain_apply, ← Equiv.sum_comp (halves hT hH), Fintype.sum_sum_type]
  refine congrArg₂ (· + ·) (Finset.sum_congr rfl fun k _ => ?_) (Finset.sum_congr rfl fun k _ => ?_)
  · exact congrArg₂ (· * ·) (hal r k) ((hbl k d).trans (deqm_half hS hT hH x s false k d _ rfl).symm)
  · exact congrArg₂ (· * ·) (hah r k) ((hbh k d).trans (deqm_half hS hT hH x s true k d _ rfl).symm)

/-! ## The results -/

variable (m : (ℓ : Loc nD τ sig) → Buf (Elt Ideal) ℓ) (ρ : Dev nD → PrngReg)

set_option maxHeartbeats 2000000 in
/-- Every execution of the reference ends with the two products with the decoded matrices in its results, and its arguments unchanged. -/
theorem run : θ_run defs (onTc (τ := τ) (main (F := Ideal))) ⟨m, fun _ => 0, ρ⟩ fun r => ∀ c : Dev nD,
    r.2.mem ((c.tc : Thread nD τ).loc main_v169) = prod (M := 1536) (K := 2560) (N := 7168) (m ((c : Thread nD τ).loc main_arg4)) (deqm (H := 1280) (S := 80) (T := 2560) rfl rfl rfl (m ((c : Thread nD τ).loc main_arg0)) (m ((c : Thread nD τ).loc main_arg1)))
    ∧ r.2.mem ((c.tc : Thread nD τ).loc main_v174) = prod (M := 2560) (K := 1536) (N := 7168) (m ((c : Thread nD τ).loc main_arg5)) (deqm (H := 768) (S := 48) (T := 1536) rfl rfl rfl (m ((c : Thread nD τ).loc main_arg2)) (m ((c : Thread nD τ).loc main_arg3)))
    ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) := by
  refine (θ_run defs _ _).mono (fun r h c => ?_) (Value.run m ρ)
  obtain ⟨h0, h1, h2⟩ := h c
  refine ⟨h0.trans (funext fun y => ?_), h1.trans (funext fun y => ?_), h2⟩
  · show _ = prod (M := 1536) (K := 2560) (N := 7168) (m ((c : Thread nD τ).loc main_arg4)) (deqm (H := 1280) (S := 80) (T := 2560) rfl rfl rfl (m ((c : Thread nD τ).loc main_arg0)) (m ((c : Thread nD τ).loc main_arg1))) y
    refine sum_halves (M := 1536) (H := 1280) (S := 80) (T := 2560) (N := 7168) rfl rfl rfl (m ((c : Thread nD τ).loc main_arg4)) (m ((c : Thread nD τ).loc main_arg0)) (m ((c : Thread nD τ).loc main_arg1)) _ _ _ _ ?_ ?_ ?_ ?_ y
    · exact fun r k => half_apply (M := 1536) (B := 10) (K := 1280) (T := 2560) rfl rfl 0 (by decide) (m ((c : Thread nD τ).loc main_arg4)) _ _ _ _ r k
    · exact fun r k => half_apply (M := 1536) (B := 10) (K := 1280) (T := 2560) rfl rfl 1 (by decide) (m ((c : Thread nD τ).loc main_arg4)) _ _ _ _ r k
    · exact fun k d => (scaled_apply (H := 1280) (S := 80) (N := 7168) rfl (by decide) _ _ _ _ _ _ k d).trans
        (congrArg₂ (· * ·) (tab_word false ((m ((c : Thread nD τ).loc main_arg0)) (ix2 k d))) rfl)
    · exact fun k d => (scaled_apply (H := 1280) (S := 80) (N := 7168) rfl (by decide) _ _ _ _ _ _ k d).trans
        (congrArg₂ (· * ·) (tab_word true ((m ((c : Thread nD τ).loc main_arg0)) (ix2 k d))) rfl)
  · show _ = prod (M := 2560) (K := 1536) (N := 7168) (m ((c : Thread nD τ).loc main_arg5)) (deqm (H := 768) (S := 48) (T := 1536) rfl rfl rfl (m ((c : Thread nD τ).loc main_arg2)) (m ((c : Thread nD τ).loc main_arg3))) y
    refine sum_halves (M := 2560) (H := 768) (S := 48) (T := 1536) (N := 7168) rfl rfl rfl (m ((c : Thread nD τ).loc main_arg5)) (m ((c : Thread nD τ).loc main_arg2)) (m ((c : Thread nD τ).loc main_arg3)) _ _ _ _ ?_ ?_ ?_ ?_ y
    · exact fun r k => half_apply (M := 2560) (B := 6) (K := 768) (T := 1536) rfl rfl 0 (by decide) (m ((c : Thread nD τ).loc main_arg5)) _ _ _ _ r k
    · exact fun r k => half_apply (M := 2560) (B := 6) (K := 768) (T := 1536) rfl rfl 1 (by decide) (m ((c : Thread nD τ).loc main_arg5)) _ _ _ _ r k
    · exact fun k d => (scaled_apply (H := 768) (S := 48) (N := 7168) rfl (by decide) _ _ _ _ _ _ k d).trans
        (congrArg₂ (· * ·) (tab_word false ((m ((c : Thread nD τ).loc main_arg2)) (ix2 k d))) rfl)
    · exact fun k d => (scaled_apply (H := 768) (S := 48) (N := 7168) rfl (by decide) _ _ _ _ _ _ k d).trans
        (congrArg₂ (· * ·) (tab_word true ((m ((c : Thread nD τ).loc main_arg2)) (ix2 k d))) rfl)

end Cert.ReferenceIdeal.Products

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Products
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference, straight-line host code, leaves its arguments and every semaphore as they were. -/
theorem frame_reference : Cert.quiescent_ReferenceIdeal := fun m ρ _ =>
  (θ_run ReferenceIdeal.defs _ _).mono (fun r h => ⟨fun c => (h c).2.2, sem_eq_zero_of_no_sems (by decide) r.2⟩)
    (ReferenceIdeal.Value.run m ρ)

/-- Over the extended reals both results of the kernel are those of the reference. -/
theorem algebraic : Cert.algebraic_KernelIdeal_ReferenceIdeal := by
  intro m g m' g' _ hm
  refine ⟨fun c => KernelIdeal.Products.dx m c, fun c => KernelIdeal.Products.dw m c, ?_, ?_⟩
  · refine (θ_run KernelIdeal.defs _ _).mono (fun r h c => ?_) (KernelIdeal.Value.run_blocks m g)
    obtain ⟨h0, h1, h2⟩ := h c
    exact ⟨h0.trans (KernelIdeal.Products.final_dx m c), h1.trans (KernelIdeal.Products.final_dw m c), h2⟩
  · refine (θ_run ReferenceIdeal.defs _ _).mono (fun r h c => ?_) (ReferenceIdeal.Products.run m' g')
    obtain ⟨h0, h1, h2⟩ := h c
    obtain ⟨e0, e1, e2, e3, e4, e5⟩ := hm c
    exact ⟨h0.trans (by rw [e4, e0, e1]), h1.trans (by rw [e5, e2, e3]), h2⟩

/-- Every claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
